-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Reference (m : (ℓ : Loc Cert.Reference.nD Cert.Reference.τ Cert.Reference.sig) → Buf (Elt Bits) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def preserves_Kernel_KernelIdeal : Prop :=
  IdealRules.named_const.Statement Cert.KernelIdeal.κ "scale" .f32 0x41A4E123#32 (((100 / 7) * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "ln2_over_n" .f32 0x39B17218#32 (((Real.log 2) * (1 / 2048) : ℝ) : EReal)

def preserves_Reference_ReferenceIdeal : Prop :=
  True

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts) (hPre_finite_in_range : Cert.Pre_finite_in_range.Facts),
    quiescent_Kernel (hKernel := hKernel) (hPre_in_range := hPre_in_range)
    ∧ quiescent_KernelIdeal (hKernelIdeal := hKernelIdeal) (hPre_in_range := hPre_in_range)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ quiescent_Reference (hReference := hReference)
    ∧ preserves_Kernel_KernelIdeal
    ∧ preserves_Reference_ReferenceIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S4x64x48x48x48 : Shape := ⟨5, ![4, 64, 48, 48, 48]⟩
abbrev S4x1x48x48x48 : Shape := ⟨5, ![4, 1, 48, 48, 48]⟩
abbrev S2048 : Shape := ⟨1, ![2048]⟩
abbrev S8192x64 : Shape := ⟨2, ![8192, 64]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S4x64x48x48x48 : S_.BroadcastsInDim S4x64x48x48x48 (![] : Fin 0 → Fin S4x64x48x48x48.rank)
  reducesTo_S4x64x48x48x48_S_d0_1_2_3_4 : S4x64x48x48x48.ReducesTo [0, 1, 2, 3, 4] S_
  bcast_S_S8192x64 : S_.BroadcastsInDim S8192x64 (![] : Fin 0 → Fin S8192x64.rank)
  reducesTo_S8192x64_S_d0_1 : S8192x64.ReducesTo [0, 1] S_

variable [Facts]

def fn_part1 {F : FTy → Type} [FloatOps F] (main_v15 : IVec S_ 1) (main_v16 : FVec F S8192x64 .f32) : IVec S_ 1 :=
  let main_cst_5 : FVec F S_ .f32 := constant S_ .f32 0x7F800000#32
  let main_v17 : FVec F S8192x64 .f32 := broadcastInDim S8192x64 ![] bcast_S_S8192x64 main_cst_5
  let main_v18 : IVec S8192x64 1 := cmpf .olt main_v16 main_v17
  let main_c_6 : IVec S_ 1 := constantI S_ 1 1#1
  let main_v19 : IVec S_ 1 := (fun x v => Host.reduce IntOp.andi x v reducesTo_S8192x64_S_d0_1 h_S_) main_v18 main_c_6
  let main_v20 : IVec S_ 1 := andi main_v15 main_v19
  main_v20

def fn {F : FTy → Type} [FloatOps F] (main_arg0 : FVec F S4x64x48x48x48 .f32) (main_arg1 : FVec F S4x64x48x48x48 .f32) (main_arg2 : FVec F S4x1x48x48x48 .f32) (main_arg3 : FVec F S4x1x48x48x48 .f32) (main_arg4 : IVec S2048 32) (main_arg5 : FVec F S8192x64 .f32) : IVec S_ 1 :=
  let main_c : IVec S_ 32 := constantI S_ 32 0#32
  let main_v0 : IVec S2048 32 := broadcastInDim S2048 ![] bcast_S_S2048 main_c
  let main_v1 : IVec S2048 1 := cmpi .sge main_arg4 main_v0
  let main_c_0 : IVec S_ 32 := constantI S_ 32 442368#32
  let main_v2 : IVec S2048 32 := broadcastInDim S2048 ![] bcast_S_S2048 main_c_0
  let main_v3 : IVec S2048 1 := cmpi .slt main_arg4 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  let main_v6 : FVec F S4x64x48x48x48 .f32 := Host.absf main_arg0
  let main_cst : FVec F S_ .f32 := constant S_ .f32 0x7F800000#32
  let main_v7 : FVec F S4x64x48x48x48 .f32 := broadcastInDim S4x64x48x48x48 ![] bcast_S_S4x64x48x48x48 main_cst
  let main_v8 : IVec S4x64x48x48x48 1 := cmpf .olt main_v6 main_v7
  let main_c_2 : IVec S_ 1 := constantI S_ 1 1#1
  let main_v9 : IVec S_ 1 := (fun x v => Host.reduce IntOp.andi x v reducesTo_S4x64x48x48x48_S_d0_1_2_3_4 h_S_) main_v8 main_c_2
  let main_v10 : IVec S_ 1 := andi main_v5 main_v9
  let main_v11 : FVec F S4x64x48x48x48 .f32 := Host.absf main_arg1
  let main_cst_3 : FVec F S_ .f32 := constant S_ .f32 0x7F800000#32
  let main_v12 : FVec F S4x64x48x48x48 .f32 := broadcastInDim S4x64x48x48x48 ![] bcast_S_S4x64x48x48x48 main_cst_3
  let main_v13 : IVec S4x64x48x48x48 1 := cmpf .olt main_v11 main_v12
  let main_c_4 : IVec S_ 1 := constantI S_ 1 1#1
  let main_v14 : IVec S_ 1 := (fun x v => Host.reduce IntOp.andi x v reducesTo_S4x64x48x48x48_S_d0_1_2_3_4 h_S_) main_v13 main_c_4
  let main_v15 : IVec S_ 1 := andi main_v10 main_v14
  let main_v16 : FVec F S8192x64 .f32 := Host.absf main_arg5
  fn_part1 (F := F) main_v15 main_v16
-- ==== Pre_in_range.lean ====
abbrev S4x64x48x48x48 : Shape := ⟨5, ![4, 64, 48, 48, 48]⟩
abbrev S4x1x48x48x48 : Shape := ⟨5, ![4, 1, 48, 48, 48]⟩
abbrev S2048 : Shape := ⟨1, ![2048]⟩
abbrev S8192x64 : Shape := ⟨2, ![8192, 64]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : FVec F S4x64x48x48x48 .f32) (main_arg1 : FVec F S4x64x48x48x48 .f32) (main_arg2 : FVec F S4x1x48x48x48 .f32) (main_arg3 : FVec F S4x1x48x48x48 .f32) (main_arg4 : IVec S2048 32) (main_arg5 : FVec F S8192x64 .f32) : IVec S2048 1 :=
  let main_c : IVec S_ 32 := constantI S_ 32 0#32
  let main_v0 : IVec S2048 32 := broadcastInDim S2048 ![] bcast_S_S2048 main_c
  let main_v1 : IVec S2048 1 := cmpi .sge main_arg4 main_v0
  let main_c_0 : IVec S_ 32 := constantI S_ 32 442368#32
  let main_v2 : IVec S2048 32 := broadcastInDim S2048 ![] bcast_S_S2048 main_c_0
  let main_v3 : IVec S2048 1 := cmpi .slt main_arg4 main_v2
  let main_v4 : IVec S2048 1 := andi main_v1 main_v3
  main_v4
-- ==== Kernel.lean ====
abbrev S4x64x48x48x48 : Shape := ⟨5, ![4, 64, 48, 48, 48]⟩
abbrev S4x1x48x48x48 : Shape := ⟨5, ![4, 1, 48, 48, 48]⟩
abbrev S2048 : Shape := ⟨1, ![2048]⟩
abbrev S8192x64 : Shape := ⟨2, ![8192, 64]⟩
abbrev S4x48x48x48x64 : Shape := ⟨5, ![4, 48, 48, 48, 64]⟩
abbrev S442368x64 : Shape := ⟨2, ![442368, 64]⟩
abbrev S2048x64 : Shape := ⟨2, ![2048, 64]⟩
abbrev S64 : Shape := ⟨1, ![64]⟩
abbrev S64x64 : Shape := ⟨2, ![64, 64]⟩
abbrev S_ : Shape := ⟨0, ![]⟩
abbrev S16 : Shape := ⟨1, ![16]⟩
abbrev S1 : Shape := ⟨1, ![1]⟩
abbrev S1x64 : Shape := ⟨2, ![1, 64]⟩
abbrev S1x1 : Shape := ⟨2, ![1, 1]⟩
abbrev S1024x64 : Shape := ⟨2, ![1024, 64]⟩
abbrev S1024 : Shape := ⟨1, ![1024]⟩
abbrev S1024x1024 : Shape := ⟨2, ![1024, 1024]⟩
abbrev S1024x1 : Shape := ⟨2, ![1024, 1]⟩
abbrev S1x1024 : Shape := ⟨2, ![1, 1024]⟩

abbrev nBuf : Table → Nat
  | .hbm => 15
  | .local .tc .vmem => 6
  | .local .scVector .vmem => 3
  | _ => 0

abbrev bufTy : (tb : Table) → Fin (nBuf tb) → BufTy
  | .hbm, ⟨0, _⟩ => ⟨S4x64x48x48x48, .f32⟩
  | .hbm, ⟨1, _⟩ => ⟨S4x64x48x48x48, .f32⟩
  | .hbm, ⟨2, _⟩ => ⟨S4x1x48x48x48, .f32⟩
  | .hbm, ⟨3, _⟩ => ⟨S4x1x48x48x48, .f32⟩
  | .hbm, ⟨4, _⟩ => ⟨S2048, .i32⟩
  | .hbm, ⟨5, _⟩ => ⟨S8192x64, .f32⟩
  | .hbm, ⟨6, _⟩ => ⟨S4x48x48x48x64, .f32⟩
  | .hbm, ⟨7, _⟩ => ⟨S442368x64, .f32⟩
  | .hbm, ⟨8, _⟩ => ⟨S4x48x48x48x64, .f32⟩
  | .hbm, ⟨9, _⟩ => ⟨S442368x64, .f32⟩
  | .hbm, ⟨10, _⟩ => ⟨S2048x64, .f32⟩
  | .hbm, ⟨11, _⟩ => ⟨S2048x64, .f32⟩
  | .hbm, ⟨12, _⟩ => ⟨S8192x64, .bf16⟩
  | .hbm, ⟨13, _⟩ => ⟨S1x1, .f32⟩
  | .hbm, ⟨14, _⟩ => ⟨S_, .f32⟩
  | .local .tc .vmem, ⟨0, _⟩ => ⟨S1024x64, .f32⟩
  | .local .tc .vmem, ⟨1, _⟩ => ⟨S1024x64, .f32⟩
  | .local .tc .vmem, ⟨2, _⟩ => ⟨S1024x64, .f32⟩
  | .local .tc .vmem, ⟨3, _⟩ => ⟨S1024x64, .f32⟩
  | .local .tc .vmem, ⟨4, _⟩ => ⟨S8192x64, .bf16⟩
  | .local .tc .vmem, ⟨5, _⟩ => ⟨S1x1, .f32⟩
  | .local .scVector .vmem, ⟨0, _⟩ => ⟨S64, .i32⟩
  | .local .scVector .vmem, ⟨1, _⟩ => ⟨S64x64, .f32⟩
  | .local .scVector .vmem, ⟨2, _⟩ => ⟨S64x64, .f32⟩
  | _, _ => ⟨S4x64x48x48x48, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v1_scv : Ref sig .scVector := ⟨.hbm, 7, rfl⟩
abbrev main_v3_scv : Ref sig .scVector := ⟨.hbm, 9, rfl⟩
abbrev main_arg4_scv : Ref sig .scVector := ⟨.hbm, 4, rfl⟩
abbrev main_v4_0_scv : Ref sig .scVector := ⟨.hbm, 10, rfl⟩
abbrev main_v4_1_scv : Ref sig .scVector := ⟨.hbm, 11, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
def k0_off2 (v5 : BitVec 32) : Fin 2 → Nat :=
  let c0_i32_1 : BitVec 32 := 0#32
  ![v5.toNat, 0]

def k0_off3 (v15 : BitVec 32) : Fin 2 → Nat :=
  let c0_i32_12 : BitVec 32 := 0#32
  ![v15.toNat, 0]

def k0_off4 (v25 : BitVec 32) : Fin 2 → Nat :=
  let c0_i32_24 : BitVec 32 := 0#32
  ![v25.toNat, 0]

def k0_off5 (v35 : BitVec 32) : Fin 2 → Nat :=
  let c0_i32_35 : BitVec 32 := 0#32
  ![v35.toNat, 0]

def k0_off6 (v45 : BitVec 32) : Fin 2 → Nat :=
  let c0_i32_46 : BitVec 32 := 0#32
  ![v45.toNat, 0]

def k0_off7 (v55 : BitVec 32) : Fin 2 → Nat :=
  let c0_i32_57 : BitVec 32 := 0#32
  ![v55.toNat, 0]

def k0_off8 (v65 : BitVec 32) : Fin 2 → Nat :=
  let c0_i32_68 : BitVec 32 := 0#32
  ![v65.toNat, 0]

def k0_off9 (v75 : BitVec 32) : Fin 2 → Nat :=
  let c0_i32_79 : BitVec 32 := 0#32
  ![v75.toNat, 0]

def k0_off10 (v85 : BitVec 32) : Fin 2 → Nat :=
  let c0_i32_90 : BitVec 32 := 0#32
  ![v85.toNat, 0]

def k0_off11 (v95 : BitVec 32) : Fin 2 → Nat :=
  let c0_i32_101 : BitVec 32 := 0#32
  ![v95.toNat, 0]

def k0_off12 (v105 : BitVec 32) : Fin 2 → Nat :=
  let c0_i32_112 : BitVec 32 := 0#32
  ![v105.toNat, 0]

def k0_off13 (v115 : BitVec 32) : Fin 2 → Nat :=
  let c0_i32_123 : BitVec 32 := 0#32
  ![v115.toNat, 0]

def k0_off14 (v125 : BitVec 32) : Fin 2 → Nat :=
  let c0_i32_134 : BitVec 32 := 0#32
  ![v125.toNat, 0]

def k0_off15 (v135 : BitVec 32) : Fin 2 → Nat :=
  let c0_i32_145 : BitVec 32 := 0#32
  ![v135.toNat, 0]

def k0_off16 (v145 : BitVec 32) : Fin 2 → Nat :=
  let c0_i32_156 : BitVec 32 := 0#32
  ![v145.toNat, 0]

def k0_off17 (v155 : BitVec 32) : Fin 2 → Nat :=
  let c0_i32_167 : BitVec 32 := 0#32
  ![v155.toNat, 0]

def k0_off18 (v166 : BitVec 32) : Fin 2 → Nat :=
  let c0_i32_178 : BitVec 32 := 0#32
  ![v166.toNat, 0]

def k0_off19 (v176 : BitVec 32) : Fin 2 → Nat :=
  let c0_i32_189 : BitVec 32 := 0#32
  ![v176.toNat, 0]

def k0_off20 (v186 : BitVec 32) : Fin 2 → Nat :=
  let c0_i32_200 : BitVec 32 := 0#32
  ![v186.toNat, 0]

def k0_off21 (v196 : BitVec 32) : Fin 2 → Nat :=
  let c0_i32_211 : BitVec 32 := 0#32
  ![v196.toNat, 0]

def k0_off22 (v206 : BitVec 32) : Fin 2 → Nat :=
  let c0_i32_222 : BitVec 32 := 0#32
  ![v206.toNat, 0]

def k0_off23 (v216 : BitVec 32) : Fin 2 → Nat :=
  let c0_i32_233 : BitVec 32 := 0#32
  ![v216.toNat, 0]

def k0_off24 (v226 : BitVec 32) : Fin 2 → Nat :=
  let c0_i32_244 : BitVec 32 := 0#32
  ![v226.toNat, 0]

def k0_off25 (v236 : BitVec 32) : Fin 2 → Nat :=
  let c0_i32_255 : BitVec 32 := 0#32
  ![v236.toNat, 0]

def k0_off26 (v246 : BitVec 32) : Fin 2 → Nat :=
  let c0_i32_266 : BitVec 32 := 0#32
  ![v246.toNat, 0]

def k0_off27 (v256 : BitVec 32) : Fin 2 → Nat :=
  let c0_i32_277 : BitVec 32 := 0#32
  ![v256.toNat, 0]

def k0_off28 (v266 : BitVec 32) : Fin 2 → Nat :=
  let c0_i32_288 : BitVec 32 := 0#32
  ![v266.toNat, 0]

def k0_off29 (v276 : BitVec 32) : Fin 2 → Nat :=
  let c0_i32_299 : BitVec 32 := 0#32
  ![v276.toNat, 0]

def k0_off30 (v286 : BitVec 32) : Fin 2 → Nat :=
  let c0_i32_310 : BitVec 32 := 0#32
  ![v286.toNat, 0]

def k0_off31 (v296 : BitVec 32) : Fin 2 → Nat :=
  let c0_i32_321 : BitVec 32 := 0#32
  ![v296.toNat, 0]

def k0_off32 (v306 : BitVec 32) : Fin 2 → Nat :=
  let c0_i32_332 : BitVec 32 := 0#32
  ![v306.toNat, 0]

def k0_off33 (v316 : BitVec 32) : Fin 2 → Nat :=
  let c0_i32_343 : BitVec 32 := 0#32
  ![v316.toNat, 0]

def k0_off34 (v327 : BitVec 32) : Fin 2 → Nat :=
  let c0_i32_354 : BitVec 32 := 0#32
  ![v327.toNat, 0]

def k0_off35 (v337 : BitVec 32) : Fin 2 → Nat :=
  let c0_i32_365 : BitVec 32 := 0#32
  ![v337.toNat, 0]

def k0_off36 (v347 : BitVec 32) : Fin 2 → Nat :=
  let c0_i32_376 : BitVec 32 := 0#32
  ![v347.toNat, 0]

def k0_off37 (v357 : BitVec 32) : Fin 2 → Nat :=
  let c0_i32_387 : BitVec 32 := 0#32
  ![v357.toNat, 0]

def k0_off38 (v367 : BitVec 32) : Fin 2 → Nat :=
  let c0_i32_398 : BitVec 32 := 0#32
  ![v367.toNat, 0]

def k0_off39 (v377 : BitVec 32) : Fin 2 → Nat :=
  let c0_i32_409 : BitVec 32 := 0#32
  ![v377.toNat, 0]

def k0_off40 (v387 : BitVec 32) : Fin 2 → Nat :=
  let c0_i32_420 : BitVec 32 := 0#32
  ![v387.toNat, 0]

def k0_off41 (v397 : BitVec 32) : Fin 2 → Nat :=
  let c0_i32_431 : BitVec 32 := 0#32
  ![v397.toNat, 0]

def k0_off42 (v407 : BitVec 32) : Fin 2 → Nat :=
  let c0_i32_442 : BitVec 32 := 0#32
  ![v407.toNat, 0]

def k0_off43 (v417 : BitVec 32) : Fin 2 → Nat :=
  let c0_i32_453 : BitVec 32 := 0#32
  ![v417.toNat, 0]

def k0_off44 (v427 : BitVec 32) : Fin 2 → Nat :=
  let c0_i32_464 : BitVec 32 := 0#32
  ![v427.toNat, 0]

def k0_off45 (v437 : BitVec 32) : Fin 2 → Nat :=
  let c0_i32_475 : BitVec 32 := 0#32
  ![v437.toNat, 0]

def k0_off46 (v447 : BitVec 32) : Fin 2 → Nat :=
  let c0_i32_486 : BitVec 32 := 0#32
  ![v447.toNat, 0]

def k0_off47 (v457 : BitVec 32) : Fin 2 → Nat :=
  let c0_i32_497 : BitVec 32 := 0#32
  ![v457.toNat, 0]

def k0_off48 (v467 : BitVec 32) : Fin 2 → Nat :=
  let c0_i32_508 : BitVec 32 := 0#32
  ![v467.toNat, 0]

def k0_off49 (v477 : BitVec 32) : Fin 2 → Nat :=
  let c0_i32_519 : BitVec 32 := 0#32
  ![v477.toNat, 0]

def k0_off50 (v488 : BitVec 32) : Fin 2 → Nat :=
  let c0_i32_530 : BitVec 32 := 0#32
  ![v488.toNat, 0]

def k0_off51 (v498 : BitVec 32) : Fin 2 → Nat :=
  let c0_i32_541 : BitVec 32 := 0#32
  ![v498.toNat, 0]

def k0_off52 (v508 : BitVec 32) : Fin 2 → Nat :=
  let c0_i32_552 : BitVec 32 := 0#32
  ![v508.toNat, 0]

def k0_off53 (v518 : BitVec 32) : Fin 2 → Nat :=
  let c0_i32_563 : BitVec 32 := 0#32
  ![v518.toNat, 0]

def k0_off54 (v528 : BitVec 32) : Fin 2 → Nat :=
  let c0_i32_574 : BitVec 32 := 0#32
  ![v528.toNat, 0]

def k0_off55 (v538 : BitVec 32) : Fin 2 → Nat :=
  let c0_i32_585 : BitVec 32 := 0#32
  ![v538.toNat, 0]

def k0_off56 (v548 : BitVec 32) : Fin 2 → Nat :=
  let c0_i32_596 : BitVec 32 := 0#32
  ![v548.toNat, 0]

def k0_off57 (v558 : BitVec 32) : Fin 2 → Nat :=
  let c0_i32_607 : BitVec 32 := 0#32
  ![v558.toNat, 0]

def k0_off58 (v568 : BitVec 32) : Fin 2 → Nat :=
  let c0_i32_618 : BitVec 32 := 0#32
  ![v568.toNat, 0]

def k0_off59 (v578 : BitVec 32) : Fin 2 → Nat :=
  let c0_i32_629 : BitVec 32 := 0#32
  ![v578.toNat, 0]

def k0_off60 (v588 : BitVec 32) : Fin 2 → Nat :=
  let c0_i32_640 : BitVec 32 := 0#32
  ![v588.toNat, 0]

def k0_off61 (v598 : BitVec 32) : Fin 2 → Nat :=
  let c0_i32_651 : BitVec 32 := 0#32
  ![v598.toNat, 0]

def k0_off62 (v608 : BitVec 32) : Fin 2 → Nat :=
  let c0_i32_662 : BitVec 32 := 0#32
  ![v608.toNat, 0]

def k0_off63 (v618 : BitVec 32) : Fin 2 → Nat :=
  let c0_i32_673 : BitVec 32 := 0#32
  ![v618.toNat, 0]

def k0_off64 (v628 : BitVec 32) : Fin 2 → Nat :=
  let c0_i32_684 : BitVec 32 := 0#32
  ![v628.toNat, 0]

def k0_off65 (v638 : BitVec 32) : Fin 2 → Nat :=
  let c0_i32_695 : BitVec 32 := 0#32
  ![v638.toNat, 0]

def k0_chk64 (v638 : BitVec 32) : Prop :=
  (∀ a, (k0_off65 v638) a + S1x64.size a ≤ S442368x64.size a)
theorem k0_off65_inb : ∀ (v638 : BitVec 32) (k0_hw64 : k0_chk64 v638), ∀ a, (k0_off65 v638) a + S1x64.size a ≤ S442368x64.size a := fun v638 k0_hw64 => k0_hw64

def k0_off66 (v5 : BitVec 32) : Fin 2 → Nat :=
  let c0_i32_707 : BitVec 32 := 0#32
  ![v5.toNat, 0]

def k0_chk1 (v5 : BitVec 32) : Prop :=
  (∀ a, (k0_off2 v5) a + S1x64.size a ≤ S442368x64.size a) ∧
  (∀ a, (k0_off66 v5) a + S1x64.size a ≤ S442368x64.size a)
theorem k0_off2_inb : ∀ (v5 : BitVec 32) (k0_hw1 : k0_chk1 v5), ∀ a, (k0_off2 v5) a + S1x64.size a ≤ S442368x64.size a := fun v5 k0_hw1 => k0_hw1.1
theorem k0_off66_inb : ∀ (v5 : BitVec 32) (k0_hw1 : k0_chk1 v5), ∀ a, (k0_off66 v5) a + S1x64.size a ≤ S442368x64.size a := fun v5 k0_hw1 => k0_hw1.2

def k0_off67 (v15 : BitVec 32) : Fin 2 → Nat :=
  let c0_i32_719 : BitVec 32 := 0#32
  ![v15.toNat, 0]

def k0_chk2 (v15 : BitVec 32) : Prop :=
  (∀ a, (k0_off3 v15) a + S1x64.size a ≤ S442368x64.size a) ∧
  (∀ a, (k0_off67 v15) a + S1x64.size a ≤ S442368x64.size a)
theorem k0_off3_inb : ∀ (v15 : BitVec 32) (k0_hw2 : k0_chk2 v15), ∀ a, (k0_off3 v15) a + S1x64.size a ≤ S442368x64.size a := fun v15 k0_hw2 => k0_hw2.1
theorem k0_off67_inb : ∀ (v15 : BitVec 32) (k0_hw2 : k0_chk2 v15), ∀ a, (k0_off67 v15) a + S1x64.size a ≤ S442368x64.size a := fun v15 k0_hw2 => k0_hw2.2

def k0_off68 (v25 : BitVec 32) : Fin 2 → Nat :=
  let c0_i32_731 : BitVec 32 := 0#32
  ![v25.toNat, 0]

def k0_chk3 (v25 : BitVec 32) : Prop :=
  (∀ a, (k0_off4 v25) a + S1x64.size a ≤ S442368x64.size a) ∧
  (∀ a, (k0_off68 v25) a + S1x64.size a ≤ S442368x64.size a)
theorem k0_off4_inb : ∀ (v25 : BitVec 32) (k0_hw3 : k0_chk3 v25), ∀ a, (k0_off4 v25) a + S1x64.size a ≤ S442368x64.size a := fun v25 k0_hw3 => k0_hw3.1
theorem k0_off68_inb : ∀ (v25 : BitVec 32) (k0_hw3 : k0_chk3 v25), ∀ a, (k0_off68 v25) a + S1x64.size a ≤ S442368x64.size a := fun v25 k0_hw3 => k0_hw3.2

def k0_off69 (v35 : BitVec 32) : Fin 2 → Nat :=
  let c0_i32_743 : BitVec 32 := 0#32
  ![v35.toNat, 0]

def k0_chk4 (v35 : BitVec 32) : Prop :=
  (∀ a, (k0_off5 v35) a + S1x64.size a ≤ S442368x64.size a) ∧
  (∀ a, (k0_off69 v35) a + S1x64.size a ≤ S442368x64.size a)
theorem k0_off5_inb : ∀ (v35 : BitVec 32) (k0_hw4 : k0_chk4 v35), ∀ a, (k0_off5 v35) a + S1x64.size a ≤ S442368x64.size a := fun v35 k0_hw4 => k0_hw4.1
theorem k0_off69_inb : ∀ (v35 : BitVec 32) (k0_hw4 : k0_chk4 v35), ∀ a, (k0_off69 v35) a + S1x64.size a ≤ S442368x64.size a := fun v35 k0_hw4 => k0_hw4.2

def k0_off70 (v45 : BitVec 32) : Fin 2 → Nat :=
  let c0_i32_755 : BitVec 32 := 0#32
  ![v45.toNat, 0]

def k0_chk5 (v45 : BitVec 32) : Prop :=
  (∀ a, (k0_off6 v45) a + S1x64.size a ≤ S442368x64.size a) ∧
  (∀ a, (k0_off70 v45) a + S1x64.size a ≤ S442368x64.size a)
theorem k0_off6_inb : ∀ (v45 : BitVec 32) (k0_hw5 : k0_chk5 v45), ∀ a, (k0_off6 v45) a + S1x64.size a ≤ S442368x64.size a := fun v45 k0_hw5 => k0_hw5.1
theorem k0_off70_inb : ∀ (v45 : BitVec 32) (k0_hw5 : k0_chk5 v45), ∀ a, (k0_off70 v45) a + S1x64.size a ≤ S442368x64.size a := fun v45 k0_hw5 => k0_hw5.2

def k0_off71 (v55 : BitVec 32) : Fin 2 → Nat :=
  let c0_i32_767 : BitVec 32 := 0#32
  ![v55.toNat, 0]

def k0_chk6 (v55 : BitVec 32) : Prop :=
  (∀ a, (k0_off7 v55) a + S1x64.size a ≤ S442368x64.size a) ∧
  (∀ a, (k0_off71 v55) a + S1x64.size a ≤ S442368x64.size a)
theorem k0_off7_inb : ∀ (v55 : BitVec 32) (k0_hw6 : k0_chk6 v55), ∀ a, (k0_off7 v55) a + S1x64.size a ≤ S442368x64.size a := fun v55 k0_hw6 => k0_hw6.1
theorem k0_off71_inb : ∀ (v55 : BitVec 32) (k0_hw6 : k0_chk6 v55), ∀ a, (k0_off71 v55) a + S1x64.size a ≤ S442368x64.size a := fun v55 k0_hw6 => k0_hw6.2

def k0_off72 (v65 : BitVec 32) : Fin 2 → Nat :=
  let c0_i32_779 : BitVec 32 := 0#32
  ![v65.toNat, 0]

def k0_chk7 (v65 : BitVec 32) : Prop :=
  (∀ a, (k0_off8 v65) a + S1x64.size a ≤ S442368x64.size a) ∧
  (∀ a, (k0_off72 v65) a + S1x64.size a ≤ S442368x64.size a)
theorem k0_off8_inb : ∀ (v65 : BitVec 32) (k0_hw7 : k0_chk7 v65), ∀ a, (k0_off8 v65) a + S1x64.size a ≤ S442368x64.size a := fun v65 k0_hw7 => k0_hw7.1
theorem k0_off72_inb : ∀ (v65 : BitVec 32) (k0_hw7 : k0_chk7 v65), ∀ a, (k0_off72 v65) a + S1x64.size a ≤ S442368x64.size a := fun v65 k0_hw7 => k0_hw7.2

def k0_off73 (v75 : BitVec 32) : Fin 2 → Nat :=
  let c0_i32_791 : BitVec 32 := 0#32
  ![v75.toNat, 0]

def k0_chk8 (v75 : BitVec 32) : Prop :=
  (∀ a, (k0_off9 v75) a + S1x64.size a ≤ S442368x64.size a) ∧
  (∀ a, (k0_off73 v75) a + S1x64.size a ≤ S442368x64.size a)
theorem k0_off9_inb : ∀ (v75 : BitVec 32) (k0_hw8 : k0_chk8 v75), ∀ a, (k0_off9 v75) a + S1x64.size a ≤ S442368x64.size a := fun v75 k0_hw8 => k0_hw8.1
theorem k0_off73_inb : ∀ (v75 : BitVec 32) (k0_hw8 : k0_chk8 v75), ∀ a, (k0_off73 v75) a + S1x64.size a ≤ S442368x64.size a := fun v75 k0_hw8 => k0_hw8.2

def k0_off74 (v85 : BitVec 32) : Fin 2 → Nat :=
  let c0_i32_803 : BitVec 32 := 0#32
  ![v85.toNat, 0]

def k0_chk9 (v85 : BitVec 32) : Prop :=
  (∀ a, (k0_off10 v85) a + S1x64.size a ≤ S442368x64.size a) ∧
  (∀ a, (k0_off74 v85) a + S1x64.size a ≤ S442368x64.size a)
theorem k0_off10_inb : ∀ (v85 : BitVec 32) (k0_hw9 : k0_chk9 v85), ∀ a, (k0_off10 v85) a + S1x64.size a ≤ S442368x64.size a := fun v85 k0_hw9 => k0_hw9.1
theorem k0_off74_inb : ∀ (v85 : BitVec 32) (k0_hw9 : k0_chk9 v85), ∀ a, (k0_off74 v85) a + S1x64.size a ≤ S442368x64.size a := fun v85 k0_hw9 => k0_hw9.2

def k0_off75 (v95 : BitVec 32) : Fin 2 → Nat :=
  let c0_i32_815 : BitVec 32 := 0#32
  ![v95.toNat, 0]

def k0_chk10 (v95 : BitVec 32) : Prop :=
  (∀ a, (k0_off11 v95) a + S1x64.size a ≤ S442368x64.size a) ∧
  (∀ a, (k0_off75 v95) a + S1x64.size a ≤ S442368x64.size a)
theorem k0_off11_inb : ∀ (v95 : BitVec 32) (k0_hw10 : k0_chk10 v95), ∀ a, (k0_off11 v95) a + S1x64.size a ≤ S442368x64.size a := fun v95 k0_hw10 => k0_hw10.1
theorem k0_off75_inb : ∀ (v95 : BitVec 32) (k0_hw10 : k0_chk10 v95), ∀ a, (k0_off75 v95) a + S1x64.size a ≤ S442368x64.size a := fun v95 k0_hw10 => k0_hw10.2

def k0_off76 (v105 : BitVec 32) : Fin 2 → Nat :=
  let c0_i32_827 : BitVec 32 := 0#32
  ![v105.toNat, 0]

def k0_chk11 (v105 : BitVec 32) : Prop :=
  (∀ a, (k0_off12 v105) a + S1x64.size a ≤ S442368x64.size a) ∧
  (∀ a, (k0_off76 v105) a + S1x64.size a ≤ S442368x64.size a)
theorem k0_off12_inb : ∀ (v105 : BitVec 32) (k0_hw11 : k0_chk11 v105), ∀ a, (k0_off12 v105) a + S1x64.size a ≤ S442368x64.size a := fun v105 k0_hw11 => k0_hw11.1
theorem k0_off76_inb : ∀ (v105 : BitVec 32) (k0_hw11 : k0_chk11 v105), ∀ a, (k0_off76 v105) a + S1x64.size a ≤ S442368x64.size a := fun v105 k0_hw11 => k0_hw11.2

def k0_off77 (v115 : BitVec 32) : Fin 2 → Nat :=
  let c0_i32_839 : BitVec 32 := 0#32
  ![v115.toNat, 0]

def k0_chk12 (v115 : BitVec 32) : Prop :=
  (∀ a, (k0_off13 v115) a + S1x64.size a ≤ S442368x64.size a) ∧
  (∀ a, (k0_off77 v115) a + S1x64.size a ≤ S442368x64.size a)
theorem k0_off13_inb : ∀ (v115 : BitVec 32) (k0_hw12 : k0_chk12 v115), ∀ a, (k0_off13 v115) a + S1x64.size a ≤ S442368x64.size a := fun v115 k0_hw12 => k0_hw12.1
theorem k0_off77_inb : ∀ (v115 : BitVec 32) (k0_hw12 : k0_chk12 v115), ∀ a, (k0_off77 v115) a + S1x64.size a ≤ S442368x64.size a := fun v115 k0_hw12 => k0_hw12.2

def k0_off78 (v125 : BitVec 32) : Fin 2 → Nat :=
  let c0_i32_851 : BitVec 32 := 0#32
  ![v125.toNat, 0]

def k0_chk13 (v125 : BitVec 32) : Prop :=
  (∀ a, (k0_off14 v125) a + S1x64.size a ≤ S442368x64.size a) ∧
  (∀ a, (k0_off78 v125) a + S1x64.size a ≤ S442368x64.size a)
theorem k0_off14_inb : ∀ (v125 : BitVec 32) (k0_hw13 : k0_chk13 v125), ∀ a, (k0_off14 v125) a + S1x64.size a ≤ S442368x64.size a := fun v125 k0_hw13 => k0_hw13.1
theorem k0_off78_inb : ∀ (v125 : BitVec 32) (k0_hw13 : k0_chk13 v125), ∀ a, (k0_off78 v125) a + S1x64.size a ≤ S442368x64.size a := fun v125 k0_hw13 => k0_hw13.2

def k0_off79 (v135 : BitVec 32) : Fin 2 → Nat :=
  let c0_i32_863 : BitVec 32 := 0#32
  ![v135.toNat, 0]

def k0_chk14 (v135 : BitVec 32) : Prop :=
  (∀ a, (k0_off15 v135) a + S1x64.size a ≤ S442368x64.size a) ∧
  (∀ a, (k0_off79 v135) a + S1x64.size a ≤ S442368x64.size a)
theorem k0_off15_inb : ∀ (v135 : BitVec 32) (k0_hw14 : k0_chk14 v135), ∀ a, (k0_off15 v135) a + S1x64.size a ≤ S442368x64.size a := fun v135 k0_hw14 => k0_hw14.1
theorem k0_off79_inb : ∀ (v135 : BitVec 32) (k0_hw14 : k0_chk14 v135), ∀ a, (k0_off79 v135) a + S1x64.size a ≤ S442368x64.size a := fun v135 k0_hw14 => k0_hw14.2

def k0_off80 (v145 : BitVec 32) : Fin 2 → Nat :=
  let c0_i32_875 : BitVec 32 := 0#32
  ![v145.toNat, 0]

def k0_chk15 (v145 : BitVec 32) : Prop :=
  (∀ a, (k0_off16 v145) a + S1x64.size a ≤ S442368x64.size a) ∧
  (∀ a, (k0_off80 v145) a + S1x64.size a ≤ S442368x64.size a)
theorem k0_off16_inb : ∀ (v145 : BitVec 32) (k0_hw15 : k0_chk15 v145), ∀ a, (k0_off16 v145) a + S1x64.size a ≤ S442368x64.size a := fun v145 k0_hw15 => k0_hw15.1
theorem k0_off80_inb : ∀ (v145 : BitVec 32) (k0_hw15 : k0_chk15 v145), ∀ a, (k0_off80 v145) a + S1x64.size a ≤ S442368x64.size a := fun v145 k0_hw15 => k0_hw15.2

def k0_off81 (v155 : BitVec 32) : Fin 2 → Nat :=
  let c0_i32_887 : BitVec 32 := 0#32
  ![v155.toNat, 0]

def k0_chk16 (v155 : BitVec 32) : Prop :=
  (∀ a, (k0_off17 v155) a + S1x64.size a ≤ S442368x64.size a) ∧
  (∀ a, (k0_off81 v155) a + S1x64.size a ≤ S442368x64.size a)
theorem k0_off17_inb : ∀ (v155 : BitVec 32) (k0_hw16 : k0_chk16 v155), ∀ a, (k0_off17 v155) a + S1x64.size a ≤ S442368x64.size a := fun v155 k0_hw16 => k0_hw16.1
theorem k0_off81_inb : ∀ (v155 : BitVec 32) (k0_hw16 : k0_chk16 v155), ∀ a, (k0_off81 v155) a + S1x64.size a ≤ S442368x64.size a := fun v155 k0_hw16 => k0_hw16.2

def k0_off82 (v166 : BitVec 32) : Fin 2 → Nat :=
  let c0_i32_899 : BitVec 32 := 0#32
  ![v166.toNat, 0]

def k0_chk17 (v166 : BitVec 32) : Prop :=
  (∀ a, (k0_off18 v166) a + S1x64.size a ≤ S442368x64.size a) ∧
  (∀ a, (k0_off82 v166) a + S1x64.size a ≤ S442368x64.size a)
theorem k0_off18_inb : ∀ (v166 : BitVec 32) (k0_hw17 : k0_chk17 v166), ∀ a, (k0_off18 v166) a + S1x64.size a ≤ S442368x64.size a := fun v166 k0_hw17 => k0_hw17.1
theorem k0_off82_inb : ∀ (v166 : BitVec 32) (k0_hw17 : k0_chk17 v166), ∀ a, (k0_off82 v166) a + S1x64.size a ≤ S442368x64.size a := fun v166 k0_hw17 => k0_hw17.2

def k0_off83 (v176 : BitVec 32) : Fin 2 → Nat :=
  let c0_i32_911 : BitVec 32 := 0#32
  ![v176.toNat, 0]

def k0_chk18 (v176 : BitVec 32) : Prop :=
  (∀ a, (k0_off19 v176) a + S1x64.size a ≤ S442368x64.size a) ∧
  (∀ a, (k0_off83 v176) a + S1x64.size a ≤ S442368x64.size a)
theorem k0_off19_inb : ∀ (v176 : BitVec 32) (k0_hw18 : k0_chk18 v176), ∀ a, (k0_off19 v176) a + S1x64.size a ≤ S442368x64.size a := fun v176 k0_hw18 => k0_hw18.1
theorem k0_off83_inb : ∀ (v176 : BitVec 32) (k0_hw18 : k0_chk18 v176), ∀ a, (k0_off83 v176) a + S1x64.size a ≤ S442368x64.size a := fun v176 k0_hw18 => k0_hw18.2

def k0_off84 (v186 : BitVec 32) : Fin 2 → Nat :=
  let c0_i32_923 : BitVec 32 := 0#32
  ![v186.toNat, 0]

def k0_chk19 (v186 : BitVec 32) : Prop :=
  (∀ a, (k0_off20 v186) a + S1x64.size a ≤ S442368x64.size a) ∧
  (∀ a, (k0_off84 v186) a + S1x64.size a ≤ S442368x64.size a)
theorem k0_off20_inb : ∀ (v186 : BitVec 32) (k0_hw19 : k0_chk19 v186), ∀ a, (k0_off20 v186) a + S1x64.size a ≤ S442368x64.size a := fun v186 k0_hw19 => k0_hw19.1
theorem k0_off84_inb : ∀ (v186 : BitVec 32) (k0_hw19 : k0_chk19 v186), ∀ a, (k0_off84 v186) a + S1x64.size a ≤ S442368x64.size a := fun v186 k0_hw19 => k0_hw19.2

def k0_off85 (v196 : BitVec 32) : Fin 2 → Nat :=
  let c0_i32_935 : BitVec 32 := 0#32
  ![v196.toNat, 0]

def k0_chk20 (v196 : BitVec 32) : Prop :=
  (∀ a, (k0_off21 v196) a + S1x64.size a ≤ S442368x64.size a) ∧
  (∀ a, (k0_off85 v196) a + S1x64.size a ≤ S442368x64.size a)
theorem k0_off21_inb : ∀ (v196 : BitVec 32) (k0_hw20 : k0_chk20 v196), ∀ a, (k0_off21 v196) a + S1x64.size a ≤ S442368x64.size a := fun v196 k0_hw20 => k0_hw20.1
theorem k0_off85_inb : ∀ (v196 : BitVec 32) (k0_hw20 : k0_chk20 v196), ∀ a, (k0_off85 v196) a + S1x64.size a ≤ S442368x64.size a := fun v196 k0_hw20 => k0_hw20.2

def k0_off86 (v206 : BitVec 32) : Fin 2 → Nat :=
  let c0_i32_947 : BitVec 32 := 0#32
  ![v206.toNat, 0]

def k0_chk21 (v206 : BitVec 32) : Prop :=
  (∀ a, (k0_off22 v206) a + S1x64.size a ≤ S442368x64.size a) ∧
  (∀ a, (k0_off86 v206) a + S1x64.size a ≤ S442368x64.size a)
theorem k0_off22_inb : ∀ (v206 : BitVec 32) (k0_hw21 : k0_chk21 v206), ∀ a, (k0_off22 v206) a + S1x64.size a ≤ S442368x64.size a := fun v206 k0_hw21 => k0_hw21.1
theorem k0_off86_inb : ∀ (v206 : BitVec 32) (k0_hw21 : k0_chk21 v206), ∀ a, (k0_off86 v206) a + S1x64.size a ≤ S442368x64.size a := fun v206 k0_hw21 => k0_hw21.2

def k0_off87 (v216 : BitVec 32) : Fin 2 → Nat :=
  let c0_i32_959 : BitVec 32 := 0#32
  ![v216.toNat, 0]

def k0_chk22 (v216 : BitVec 32) : Prop :=
  (∀ a, (k0_off23 v216) a + S1x64.size a ≤ S442368x64.size a) ∧
  (∀ a, (k0_off87 v216) a + S1x64.size a ≤ S442368x64.size a)
theorem k0_off23_inb : ∀ (v216 : BitVec 32) (k0_hw22 : k0_chk22 v216), ∀ a, (k0_off23 v216) a + S1x64.size a ≤ S442368x64.size a := fun v216 k0_hw22 => k0_hw22.1
theorem k0_off87_inb : ∀ (v216 : BitVec 32) (k0_hw22 : k0_chk22 v216), ∀ a, (k0_off87 v216) a + S1x64.size a ≤ S442368x64.size a := fun v216 k0_hw22 => k0_hw22.2

def k0_off88 (v226 : BitVec 32) : Fin 2 → Nat :=
  let c0_i32_971 : BitVec 32 := 0#32
  ![v226.toNat, 0]

def k0_chk23 (v226 : BitVec 32) : Prop :=
  (∀ a, (k0_off24 v226) a + S1x64.size a ≤ S442368x64.size a) ∧
  (∀ a, (k0_off88 v226) a + S1x64.size a ≤ S442368x64.size a)
theorem k0_off24_inb : ∀ (v226 : BitVec 32) (k0_hw23 : k0_chk23 v226), ∀ a, (k0_off24 v226) a + S1x64.size a ≤ S442368x64.size a := fun v226 k0_hw23 => k0_hw23.1
theorem k0_off88_inb : ∀ (v226 : BitVec 32) (k0_hw23 : k0_chk23 v226), ∀ a, (k0_off88 v226) a + S1x64.size a ≤ S442368x64.size a := fun v226 k0_hw23 => k0_hw23.2

def k0_off89 (v236 : BitVec 32) : Fin 2 → Nat :=
  let c0_i32_983 : BitVec 32 := 0#32
  ![v236.toNat, 0]

def k0_chk24 (v236 : BitVec 32) : Prop :=
  (∀ a, (k0_off25 v236) a + S1x64.size a ≤ S442368x64.size a) ∧
  (∀ a, (k0_off89 v236) a + S1x64.size a ≤ S442368x64.size a)
theorem k0_off25_inb : ∀ (v236 : BitVec 32) (k0_hw24 : k0_chk24 v236), ∀ a, (k0_off25 v236) a + S1x64.size a ≤ S442368x64.size a := fun v236 k0_hw24 => k0_hw24.1
theorem k0_off89_inb : ∀ (v236 : BitVec 32) (k0_hw24 : k0_chk24 v236), ∀ a, (k0_off89 v236) a + S1x64.size a ≤ S442368x64.size a := fun v236 k0_hw24 => k0_hw24.2

def k0_off90 (v246 : BitVec 32) : Fin 2 → Nat :=
  let c0_i32_995 : BitVec 32 := 0#32
  ![v246.toNat, 0]

def k0_chk25 (v246 : BitVec 32) : Prop :=
  (∀ a, (k0_off26 v246) a + S1x64.size a ≤ S442368x64.size a) ∧
  (∀ a, (k0_off90 v246) a + S1x64.size a ≤ S442368x64.size a)
theorem k0_off26_inb : ∀ (v246 : BitVec 32) (k0_hw25 : k0_chk25 v246), ∀ a, (k0_off26 v246) a + S1x64.size a ≤ S442368x64.size a := fun v246 k0_hw25 => k0_hw25.1
theorem k0_off90_inb : ∀ (v246 : BitVec 32) (k0_hw25 : k0_chk25 v246), ∀ a, (k0_off90 v246) a + S1x64.size a ≤ S442368x64.size a := fun v246 k0_hw25 => k0_hw25.2

def k0_off91 (v256 : BitVec 32) : Fin 2 → Nat :=
  let c0_i32_1007 : BitVec 32 := 0#32
  ![v256.toNat, 0]

def k0_chk26 (v256 : BitVec 32) : Prop :=
  (∀ a, (k0_off27 v256) a + S1x64.size a ≤ S442368x64.size a) ∧
  (∀ a, (k0_off91 v256) a + S1x64.size a ≤ S442368x64.size a)
theorem k0_off27_inb : ∀ (v256 : BitVec 32) (k0_hw26 : k0_chk26 v256), ∀ a, (k0_off27 v256) a + S1x64.size a ≤ S442368x64.size a := fun v256 k0_hw26 => k0_hw26.1
theorem k0_off91_inb : ∀ (v256 : BitVec 32) (k0_hw26 : k0_chk26 v256), ∀ a, (k0_off91 v256) a + S1x64.size a ≤ S442368x64.size a := fun v256 k0_hw26 => k0_hw26.2

def k0_off92 (v266 : BitVec 32) : Fin 2 → Nat :=
  let c0_i32_1019 : BitVec 32 := 0#32
  ![v266.toNat, 0]

def k0_chk27 (v266 : BitVec 32) : Prop :=
  (∀ a, (k0_off28 v266) a + S1x64.size a ≤ S442368x64.size a) ∧
  (∀ a, (k0_off92 v266) a + S1x64.size a ≤ S442368x64.size a)
theorem k0_off28_inb : ∀ (v266 : BitVec 32) (k0_hw27 : k0_chk27 v266), ∀ a, (k0_off28 v266) a + S1x64.size a ≤ S442368x64.size a := fun v266 k0_hw27 => k0_hw27.1
theorem k0_off92_inb : ∀ (v266 : BitVec 32) (k0_hw27 : k0_chk27 v266), ∀ a, (k0_off92 v266) a + S1x64.size a ≤ S442368x64.size a := fun v266 k0_hw27 => k0_hw27.2

def k0_off93 (v276 : BitVec 32) : Fin 2 → Nat :=
  let c0_i32_1031 : BitVec 32 := 0#32
  ![v276.toNat, 0]

def k0_chk28 (v276 : BitVec 32) : Prop :=
  (∀ a, (k0_off29 v276) a + S1x64.size a ≤ S442368x64.size a) ∧
  (∀ a, (k0_off93 v276) a + S1x64.size a ≤ S442368x64.size a)
theorem k0_off29_inb : ∀ (v276 : BitVec 32) (k0_hw28 : k0_chk28 v276), ∀ a, (k0_off29 v276) a + S1x64.size a ≤ S442368x64.size a := fun v276 k0_hw28 => k0_hw28.1
theorem k0_off93_inb : ∀ (v276 : BitVec 32) (k0_hw28 : k0_chk28 v276), ∀ a, (k0_off93 v276) a + S1x64.size a ≤ S442368x64.size a := fun v276 k0_hw28 => k0_hw28.2

def k0_off94 (v286 : BitVec 32) : Fin 2 → Nat :=
  let c0_i32_1043 : BitVec 32 := 0#32
  ![v286.toNat, 0]

def k0_chk29 (v286 : BitVec 32) : Prop :=
  (∀ a, (k0_off30 v286) a + S1x64.size a ≤ S442368x64.size a) ∧
  (∀ a, (k0_off94 v286) a + S1x64.size a ≤ S442368x64.size a)
theorem k0_off30_inb : ∀ (v286 : BitVec 32) (k0_hw29 : k0_chk29 v286), ∀ a, (k0_off30 v286) a + S1x64.size a ≤ S442368x64.size a := fun v286 k0_hw29 => k0_hw29.1
theorem k0_off94_inb : ∀ (v286 : BitVec 32) (k0_hw29 : k0_chk29 v286), ∀ a, (k0_off94 v286) a + S1x64.size a ≤ S442368x64.size a := fun v286 k0_hw29 => k0_hw29.2

def k0_off95 (v296 : BitVec 32) : Fin 2 → Nat :=
  let c0_i32_1055 : BitVec 32 := 0#32
  ![v296.toNat, 0]

def k0_chk30 (v296 : BitVec 32) : Prop :=
  (∀ a, (k0_off31 v296) a + S1x64.size a ≤ S442368x64.size a) ∧
  (∀ a, (k0_off95 v296) a + S1x64.size a ≤ S442368x64.size a)
theorem k0_off31_inb : ∀ (v296 : BitVec 32) (k0_hw30 : k0_chk30 v296), ∀ a, (k0_off31 v296) a + S1x64.size a ≤ S442368x64.size a := fun v296 k0_hw30 => k0_hw30.1
theorem k0_off95_inb : ∀ (v296 : BitVec 32) (k0_hw30 : k0_chk30 v296), ∀ a, (k0_off95 v296) a + S1x64.size a ≤ S442368x64.size a := fun v296 k0_hw30 => k0_hw30.2

def k0_off96 (v306 : BitVec 32) : Fin 2 → Nat :=
  let c0_i32_1067 : BitVec 32 := 0#32
  ![v306.toNat, 0]

def k0_chk31 (v306 : BitVec 32) : Prop :=
  (∀ a, (k0_off32 v306) a + S1x64.size a ≤ S442368x64.size a) ∧
  (∀ a, (k0_off96 v306) a + S1x64.size a ≤ S442368x64.size a)
theorem k0_off32_inb : ∀ (v306 : BitVec 32) (k0_hw31 : k0_chk31 v306), ∀ a, (k0_off32 v306) a + S1x64.size a ≤ S442368x64.size a := fun v306 k0_hw31 => k0_hw31.1
theorem k0_off96_inb : ∀ (v306 : BitVec 32) (k0_hw31 : k0_chk31 v306), ∀ a, (k0_off96 v306) a + S1x64.size a ≤ S442368x64.size a := fun v306 k0_hw31 => k0_hw31.2

def k0_off97 (v316 : BitVec 32) : Fin 2 → Nat :=
  let c0_i32_1079 : BitVec 32 := 0#32
  ![v316.toNat, 0]

def k0_chk32 (v316 : BitVec 32) : Prop :=
  (∀ a, (k0_off33 v316) a + S1x64.size a ≤ S442368x64.size a) ∧
  (∀ a, (k0_off97 v316) a + S1x64.size a ≤ S442368x64.size a)
theorem k0_off33_inb : ∀ (v316 : BitVec 32) (k0_hw32 : k0_chk32 v316), ∀ a, (k0_off33 v316) a + S1x64.size a ≤ S442368x64.size a := fun v316 k0_hw32 => k0_hw32.1
theorem k0_off97_inb : ∀ (v316 : BitVec 32) (k0_hw32 : k0_chk32 v316), ∀ a, (k0_off97 v316) a + S1x64.size a ≤ S442368x64.size a := fun v316 k0_hw32 => k0_hw32.2

def k0_off98 (v327 : BitVec 32) : Fin 2 → Nat :=
  let c0_i32_1091 : BitVec 32 := 0#32
  ![v327.toNat, 0]

def k0_chk33 (v327 : BitVec 32) : Prop :=
  (∀ a, (k0_off34 v327) a + S1x64.size a ≤ S442368x64.size a) ∧
  (∀ a, (k0_off98 v327) a + S1x64.size a ≤ S442368x64.size a)
theorem k0_off34_inb : ∀ (v327 : BitVec 32) (k0_hw33 : k0_chk33 v327), ∀ a, (k0_off34 v327) a + S1x64.size a ≤ S442368x64.size a := fun v327 k0_hw33 => k0_hw33.1
theorem k0_off98_inb : ∀ (v327 : BitVec 32) (k0_hw33 : k0_chk33 v327), ∀ a, (k0_off98 v327) a + S1x64.size a ≤ S442368x64.size a := fun v327 k0_hw33 => k0_hw33.2

def k0_off99 (v337 : BitVec 32) : Fin 2 → Nat :=
  let c0_i32_1103 : BitVec 32 := 0#32
  ![v337.toNat, 0]

def k0_chk34 (v337 : BitVec 32) : Prop :=
  (∀ a, (k0_off35 v337) a + S1x64.size a ≤ S442368x64.size a) ∧
  (∀ a, (k0_off99 v337) a + S1x64.size a ≤ S442368x64.size a)
theorem k0_off35_inb : ∀ (v337 : BitVec 32) (k0_hw34 : k0_chk34 v337), ∀ a, (k0_off35 v337) a + S1x64.size a ≤ S442368x64.size a := fun v337 k0_hw34 => k0_hw34.1
theorem k0_off99_inb : ∀ (v337 : BitVec 32) (k0_hw34 : k0_chk34 v337), ∀ a, (k0_off99 v337) a + S1x64.size a ≤ S442368x64.size a := fun v337 k0_hw34 => k0_hw34.2

def k0_off100 (v347 : BitVec 32) : Fin 2 → Nat :=
  let c0_i32_1115 : BitVec 32 := 0#32
  ![v347.toNat, 0]

def k0_chk35 (v347 : BitVec 32) : Prop :=
  (∀ a, (k0_off36 v347) a + S1x64.size a ≤ S442368x64.size a) ∧
  (∀ a, (k0_off100 v347) a + S1x64.size a ≤ S442368x64.size a)
theorem k0_off36_inb : ∀ (v347 : BitVec 32) (k0_hw35 : k0_chk35 v347), ∀ a, (k0_off36 v347) a + S1x64.size a ≤ S442368x64.size a := fun v347 k0_hw35 => k0_hw35.1
theorem k0_off100_inb : ∀ (v347 : BitVec 32) (k0_hw35 : k0_chk35 v347), ∀ a, (k0_off100 v347) a + S1x64.size a ≤ S442368x64.size a := fun v347 k0_hw35 => k0_hw35.2

def k0_off101 (v357 : BitVec 32) : Fin 2 → Nat :=
  let c0_i32_1127 : BitVec 32 := 0#32
  ![v357.toNat, 0]

def k0_chk36 (v357 : BitVec 32) : Prop :=
  (∀ a, (k0_off37 v357) a + S1x64.size a ≤ S442368x64.size a) ∧
  (∀ a, (k0_off101 v357) a + S1x64.size a ≤ S442368x64.size a)
theorem k0_off37_inb : ∀ (v357 : BitVec 32) (k0_hw36 : k0_chk36 v357), ∀ a, (k0_off37 v357) a + S1x64.size a ≤ S442368x64.size a := fun v357 k0_hw36 => k0_hw36.1
theorem k0_off101_inb : ∀ (v357 : BitVec 32) (k0_hw36 : k0_chk36 v357), ∀ a, (k0_off101 v357) a + S1x64.size a ≤ S442368x64.size a := fun v357 k0_hw36 => k0_hw36.2

def k0_off102 (v367 : BitVec 32) : Fin 2 → Nat :=
  let c0_i32_1139 : BitVec 32 := 0#32
  ![v367.toNat, 0]

def k0_chk37 (v367 : BitVec 32) : Prop :=
  (∀ a, (k0_off38 v367) a + S1x64.size a ≤ S442368x64.size a) ∧
  (∀ a, (k0_off102 v367) a + S1x64.size a ≤ S442368x64.size a)
theorem k0_off38_inb : ∀ (v367 : BitVec 32) (k0_hw37 : k0_chk37 v367), ∀ a, (k0_off38 v367) a + S1x64.size a ≤ S442368x64.size a := fun v367 k0_hw37 => k0_hw37.1
theorem k0_off102_inb : ∀ (v367 : BitVec 32) (k0_hw37 : k0_chk37 v367), ∀ a, (k0_off102 v367) a + S1x64.size a ≤ S442368x64.size a := fun v367 k0_hw37 => k0_hw37.2

def k0_off103 (v377 : BitVec 32) : Fin 2 → Nat :=
  let c0_i32_1151 : BitVec 32 := 0#32
  ![v377.toNat, 0]

def k0_chk38 (v377 : BitVec 32) : Prop :=
  (∀ a, (k0_off39 v377) a + S1x64.size a ≤ S442368x64.size a) ∧
  (∀ a, (k0_off103 v377) a + S1x64.size a ≤ S442368x64.size a)
theorem k0_off39_inb : ∀ (v377 : BitVec 32) (k0_hw38 : k0_chk38 v377), ∀ a, (k0_off39 v377) a + S1x64.size a ≤ S442368x64.size a := fun v377 k0_hw38 => k0_hw38.1
theorem k0_off103_inb : ∀ (v377 : BitVec 32) (k0_hw38 : k0_chk38 v377), ∀ a, (k0_off103 v377) a + S1x64.size a ≤ S442368x64.size a := fun v377 k0_hw38 => k0_hw38.2

def k0_off104 (v387 : BitVec 32) : Fin 2 → Nat :=
  let c0_i32_1163 : BitVec 32 := 0#32
  ![v387.toNat, 0]

def k0_chk39 (v387 : BitVec 32) : Prop :=
  (∀ a, (k0_off40 v387) a + S1x64.size a ≤ S442368x64.size a) ∧
  (∀ a, (k0_off104 v387) a + S1x64.size a ≤ S442368x64.size a)
theorem k0_off40_inb : ∀ (v387 : BitVec 32) (k0_hw39 : k0_chk39 v387), ∀ a, (k0_off40 v387) a + S1x64.size a ≤ S442368x64.size a := fun v387 k0_hw39 => k0_hw39.1
theorem k0_off104_inb : ∀ (v387 : BitVec 32) (k0_hw39 : k0_chk39 v387), ∀ a, (k0_off104 v387) a + S1x64.size a ≤ S442368x64.size a := fun v387 k0_hw39 => k0_hw39.2

def k0_off105 (v397 : BitVec 32) : Fin 2 → Nat :=
  let c0_i32_1175 : BitVec 32 := 0#32
  ![v397.toNat, 0]

def k0_chk40 (v397 : BitVec 32) : Prop :=
  (∀ a, (k0_off41 v397) a + S1x64.size a ≤ S442368x64.size a) ∧
  (∀ a, (k0_off105 v397) a + S1x64.size a ≤ S442368x64.size a)
theorem k0_off41_inb : ∀ (v397 : BitVec 32) (k0_hw40 : k0_chk40 v397), ∀ a, (k0_off41 v397) a + S1x64.size a ≤ S442368x64.size a := fun v397 k0_hw40 => k0_hw40.1
theorem k0_off105_inb : ∀ (v397 : BitVec 32) (k0_hw40 : k0_chk40 v397), ∀ a, (k0_off105 v397) a + S1x64.size a ≤ S442368x64.size a := fun v397 k0_hw40 => k0_hw40.2

def k0_off106 (v407 : BitVec 32) : Fin 2 → Nat :=
  let c0_i32_1187 : BitVec 32 := 0#32
  ![v407.toNat, 0]

def k0_chk41 (v407 : BitVec 32) : Prop :=
  (∀ a, (k0_off42 v407) a + S1x64.size a ≤ S442368x64.size a) ∧
  (∀ a, (k0_off106 v407) a + S1x64.size a ≤ S442368x64.size a)
theorem k0_off42_inb : ∀ (v407 : BitVec 32) (k0_hw41 : k0_chk41 v407), ∀ a, (k0_off42 v407) a + S1x64.size a ≤ S442368x64.size a := fun v407 k0_hw41 => k0_hw41.1
theorem k0_off106_inb : ∀ (v407 : BitVec 32) (k0_hw41 : k0_chk41 v407), ∀ a, (k0_off106 v407) a + S1x64.size a ≤ S442368x64.size a := fun v407 k0_hw41 => k0_hw41.2

def k0_off107 (v417 : BitVec 32) : Fin 2 → Nat :=
  let c0_i32_1199 : BitVec 32 := 0#32
  ![v417.toNat, 0]

def k0_chk42 (v417 : BitVec 32) : Prop :=
  (∀ a, (k0_off43 v417) a + S1x64.size a ≤ S442368x64.size a) ∧
  (∀ a, (k0_off107 v417) a + S1x64.size a ≤ S442368x64.size a)
theorem k0_off43_inb : ∀ (v417 : BitVec 32) (k0_hw42 : k0_chk42 v417), ∀ a, (k0_off43 v417) a + S1x64.size a ≤ S442368x64.size a := fun v417 k0_hw42 => k0_hw42.1
theorem k0_off107_inb : ∀ (v417 : BitVec 32) (k0_hw42 : k0_chk42 v417), ∀ a, (k0_off107 v417) a + S1x64.size a ≤ S442368x64.size a := fun v417 k0_hw42 => k0_hw42.2

def k0_off108 (v427 : BitVec 32) : Fin 2 → Nat :=
  let c0_i32_1211 : BitVec 32 := 0#32
  ![v427.toNat, 0]

def k0_chk43 (v427 : BitVec 32) : Prop :=
  (∀ a, (k0_off44 v427) a + S1x64.size a ≤ S442368x64.size a) ∧
  (∀ a, (k0_off108 v427) a + S1x64.size a ≤ S442368x64.size a)
theorem k0_off44_inb : ∀ (v427 : BitVec 32) (k0_hw43 : k0_chk43 v427), ∀ a, (k0_off44 v427) a + S1x64.size a ≤ S442368x64.size a := fun v427 k0_hw43 => k0_hw43.1
theorem k0_off108_inb : ∀ (v427 : BitVec 32) (k0_hw43 : k0_chk43 v427), ∀ a, (k0_off108 v427) a + S1x64.size a ≤ S442368x64.size a := fun v427 k0_hw43 => k0_hw43.2

def k0_off109 (v437 : BitVec 32) : Fin 2 → Nat :=
  let c0_i32_1223 : BitVec 32 := 0#32
  ![v437.toNat, 0]

def k0_chk44 (v437 : BitVec 32) : Prop :=
  (∀ a, (k0_off45 v437) a + S1x64.size a ≤ S442368x64.size a) ∧
  (∀ a, (k0_off109 v437) a + S1x64.size a ≤ S442368x64.size a)
theorem k0_off45_inb : ∀ (v437 : BitVec 32) (k0_hw44 : k0_chk44 v437), ∀ a, (k0_off45 v437) a + S1x64.size a ≤ S442368x64.size a := fun v437 k0_hw44 => k0_hw44.1
theorem k0_off109_inb : ∀ (v437 : BitVec 32) (k0_hw44 : k0_chk44 v437), ∀ a, (k0_off109 v437) a + S1x64.size a ≤ S442368x64.size a := fun v437 k0_hw44 => k0_hw44.2

def k0_off110 (v447 : BitVec 32) : Fin 2 → Nat :=
  let c0_i32_1235 : BitVec 32 := 0#32
  ![v447.toNat, 0]

def k0_chk45 (v447 : BitVec 32) : Prop :=
  (∀ a, (k0_off46 v447) a + S1x64.size a ≤ S442368x64.size a) ∧
  (∀ a, (k0_off110 v447) a + S1x64.size a ≤ S442368x64.size a)
theorem k0_off46_inb : ∀ (v447 : BitVec 32) (k0_hw45 : k0_chk45 v447), ∀ a, (k0_off46 v447) a + S1x64.size a ≤ S442368x64.size a := fun v447 k0_hw45 => k0_hw45.1
theorem k0_off110_inb : ∀ (v447 : BitVec 32) (k0_hw45 : k0_chk45 v447), ∀ a, (k0_off110 v447) a + S1x64.size a ≤ S442368x64.size a := fun v447 k0_hw45 => k0_hw45.2

def k0_off111 (v457 : BitVec 32) : Fin 2 → Nat :=
  let c0_i32_1247 : BitVec 32 := 0#32
  ![v457.toNat, 0]

def k0_chk46 (v457 : BitVec 32) : Prop :=
  (∀ a, (k0_off47 v457) a + S1x64.size a ≤ S442368x64.size a) ∧
  (∀ a, (k0_off111 v457) a + S1x64.size a ≤ S442368x64.size a)
theorem k0_off47_inb : ∀ (v457 : BitVec 32) (k0_hw46 : k0_chk46 v457), ∀ a, (k0_off47 v457) a + S1x64.size a ≤ S442368x64.size a := fun v457 k0_hw46 => k0_hw46.1
theorem k0_off111_inb : ∀ (v457 : BitVec 32) (k0_hw46 : k0_chk46 v457), ∀ a, (k0_off111 v457) a + S1x64.size a ≤ S442368x64.size a := fun v457 k0_hw46 => k0_hw46.2

def k0_off112 (v467 : BitVec 32) : Fin 2 → Nat :=
  let c0_i32_1259 : BitVec 32 := 0#32
  ![v467.toNat, 0]

def k0_chk47 (v467 : BitVec 32) : Prop :=
  (∀ a, (k0_off48 v467) a + S1x64.size a ≤ S442368x64.size a) ∧
  (∀ a, (k0_off112 v467) a + S1x64.size a ≤ S442368x64.size a)
theorem k0_off48_inb : ∀ (v467 : BitVec 32) (k0_hw47 : k0_chk47 v467), ∀ a, (k0_off48 v467) a + S1x64.size a ≤ S442368x64.size a := fun v467 k0_hw47 => k0_hw47.1
theorem k0_off112_inb : ∀ (v467 : BitVec 32) (k0_hw47 : k0_chk47 v467), ∀ a, (k0_off112 v467) a + S1x64.size a ≤ S442368x64.size a := fun v467 k0_hw47 => k0_hw47.2

def k0_off113 (v477 : BitVec 32) : Fin 2 → Nat :=
  let c0_i32_1271 : BitVec 32 := 0#32
  ![v477.toNat, 0]

def k0_chk48 (v477 : BitVec 32) : Prop :=
  (∀ a, (k0_off49 v477) a + S1x64.size a ≤ S442368x64.size a) ∧
  (∀ a, (k0_off113 v477) a + S1x64.size a ≤ S442368x64.size a)
theorem k0_off49_inb : ∀ (v477 : BitVec 32) (k0_hw48 : k0_chk48 v477), ∀ a, (k0_off49 v477) a + S1x64.size a ≤ S442368x64.size a := fun v477 k0_hw48 => k0_hw48.1
theorem k0_off113_inb : ∀ (v477 : BitVec 32) (k0_hw48 : k0_chk48 v477), ∀ a, (k0_off113 v477) a + S1x64.size a ≤ S442368x64.size a := fun v477 k0_hw48 => k0_hw48.2

def k0_off114 (v488 : BitVec 32) : Fin 2 → Nat :=
  let c0_i32_1283 : BitVec 32 := 0#32
  ![v488.toNat, 0]

def k0_chk49 (v488 : BitVec 32) : Prop :=
  (∀ a, (k0_off50 v488) a + S1x64.size a ≤ S442368x64.size a) ∧
  (∀ a, (k0_off114 v488) a + S1x64.size a ≤ S442368x64.size a)
theorem k0_off50_inb : ∀ (v488 : BitVec 32) (k0_hw49 : k0_chk49 v488), ∀ a, (k0_off50 v488) a + S1x64.size a ≤ S442368x64.size a := fun v488 k0_hw49 => k0_hw49.1
theorem k0_off114_inb : ∀ (v488 : BitVec 32) (k0_hw49 : k0_chk49 v488), ∀ a, (k0_off114 v488) a + S1x64.size a ≤ S442368x64.size a := fun v488 k0_hw49 => k0_hw49.2

def k0_off115 (v498 : BitVec 32) : Fin 2 → Nat :=
  let c0_i32_1295 : BitVec 32 := 0#32
  ![v498.toNat, 0]

def k0_chk50 (v498 : BitVec 32) : Prop :=
  (∀ a, (k0_off51 v498) a + S1x64.size a ≤ S442368x64.size a) ∧
  (∀ a, (k0_off115 v498) a + S1x64.size a ≤ S442368x64.size a)
theorem k0_off51_inb : ∀ (v498 : BitVec 32) (k0_hw50 : k0_chk50 v498), ∀ a, (k0_off51 v498) a + S1x64.size a ≤ S442368x64.size a := fun v498 k0_hw50 => k0_hw50.1
theorem k0_off115_inb : ∀ (v498 : BitVec 32) (k0_hw50 : k0_chk50 v498), ∀ a, (k0_off115 v498) a + S1x64.size a ≤ S442368x64.size a := fun v498 k0_hw50 => k0_hw50.2

def k0_off116 (v508 : BitVec 32) : Fin 2 → Nat :=
  let c0_i32_1307 : BitVec 32 := 0#32
  ![v508.toNat, 0]

def k0_chk51 (v508 : BitVec 32) : Prop :=
  (∀ a, (k0_off52 v508) a + S1x64.size a ≤ S442368x64.size a) ∧
  (∀ a, (k0_off116 v508) a + S1x64.size a ≤ S442368x64.size a)
theorem k0_off52_inb : ∀ (v508 : BitVec 32) (k0_hw51 : k0_chk51 v508), ∀ a, (k0_off52 v508) a + S1x64.size a ≤ S442368x64.size a := fun v508 k0_hw51 => k0_hw51.1
theorem k0_off116_inb : ∀ (v508 : BitVec 32) (k0_hw51 : k0_chk51 v508), ∀ a, (k0_off116 v508) a + S1x64.size a ≤ S442368x64.size a := fun v508 k0_hw51 => k0_hw51.2

def k0_off117 (v518 : BitVec 32) : Fin 2 → Nat :=
  let c0_i32_1319 : BitVec 32 := 0#32
  ![v518.toNat, 0]

def k0_chk52 (v518 : BitVec 32) : Prop :=
  (∀ a, (k0_off53 v518) a + S1x64.size a ≤ S442368x64.size a) ∧
  (∀ a, (k0_off117 v518) a + S1x64.size a ≤ S442368x64.size a)
theorem k0_off53_inb : ∀ (v518 : BitVec 32) (k0_hw52 : k0_chk52 v518), ∀ a, (k0_off53 v518) a + S1x64.size a ≤ S442368x64.size a := fun v518 k0_hw52 => k0_hw52.1
theorem k0_off117_inb : ∀ (v518 : BitVec 32) (k0_hw52 : k0_chk52 v518), ∀ a, (k0_off117 v518) a + S1x64.size a ≤ S442368x64.size a := fun v518 k0_hw52 => k0_hw52.2

def k0_off118 (v528 : BitVec 32) : Fin 2 → Nat :=
  let c0_i32_1331 : BitVec 32 := 0#32
  ![v528.toNat, 0]

def k0_chk53 (v528 : BitVec 32) : Prop :=
  (∀ a, (k0_off54 v528) a + S1x64.size a ≤ S442368x64.size a) ∧
  (∀ a, (k0_off118 v528) a + S1x64.size a ≤ S442368x64.size a)
theorem k0_off54_inb : ∀ (v528 : BitVec 32) (k0_hw53 : k0_chk53 v528), ∀ a, (k0_off54 v528) a + S1x64.size a ≤ S442368x64.size a := fun v528 k0_hw53 => k0_hw53.1
theorem k0_off118_inb : ∀ (v528 : BitVec 32) (k0_hw53 : k0_chk53 v528), ∀ a, (k0_off118 v528) a + S1x64.size a ≤ S442368x64.size a := fun v528 k0_hw53 => k0_hw53.2

def k0_off119 (v538 : BitVec 32) : Fin 2 → Nat :=
  let c0_i32_1343 : BitVec 32 := 0#32
  ![v538.toNat, 0]

def k0_chk54 (v538 : BitVec 32) : Prop :=
  (∀ a, (k0_off55 v538) a + S1x64.size a ≤ S442368x64.size a) ∧
  (∀ a, (k0_off119 v538) a + S1x64.size a ≤ S442368x64.size a)
theorem k0_off55_inb : ∀ (v538 : BitVec 32) (k0_hw54 : k0_chk54 v538), ∀ a, (k0_off55 v538) a + S1x64.size a ≤ S442368x64.size a := fun v538 k0_hw54 => k0_hw54.1
theorem k0_off119_inb : ∀ (v538 : BitVec 32) (k0_hw54 : k0_chk54 v538), ∀ a, (k0_off119 v538) a + S1x64.size a ≤ S442368x64.size a := fun v538 k0_hw54 => k0_hw54.2

def k0_off120 (v548 : BitVec 32) : Fin 2 → Nat :=
  let c0_i32_1355 : BitVec 32 := 0#32
  ![v548.toNat, 0]

def k0_chk55 (v548 : BitVec 32) : Prop :=
  (∀ a, (k0_off56 v548) a + S1x64.size a ≤ S442368x64.size a) ∧
  (∀ a, (k0_off120 v548) a + S1x64.size a ≤ S442368x64.size a)
theorem k0_off56_inb : ∀ (v548 : BitVec 32) (k0_hw55 : k0_chk55 v548), ∀ a, (k0_off56 v548) a + S1x64.size a ≤ S442368x64.size a := fun v548 k0_hw55 => k0_hw55.1
theorem k0_off120_inb : ∀ (v548 : BitVec 32) (k0_hw55 : k0_chk55 v548), ∀ a, (k0_off120 v548) a + S1x64.size a ≤ S442368x64.size a := fun v548 k0_hw55 => k0_hw55.2

def k0_off121 (v558 : BitVec 32) : Fin 2 → Nat :=
  let c0_i32_1367 : BitVec 32 := 0#32
  ![v558.toNat, 0]

def k0_chk56 (v558 : BitVec 32) : Prop :=
  (∀ a, (k0_off57 v558) a + S1x64.size a ≤ S442368x64.size a) ∧
  (∀ a, (k0_off121 v558) a + S1x64.size a ≤ S442368x64.size a)
theorem k0_off57_inb : ∀ (v558 : BitVec 32) (k0_hw56 : k0_chk56 v558), ∀ a, (k0_off57 v558) a + S1x64.size a ≤ S442368x64.size a := fun v558 k0_hw56 => k0_hw56.1
theorem k0_off121_inb : ∀ (v558 : BitVec 32) (k0_hw56 : k0_chk56 v558), ∀ a, (k0_off121 v558) a + S1x64.size a ≤ S442368x64.size a := fun v558 k0_hw56 => k0_hw56.2

def k0_off122 (v568 : BitVec 32) : Fin 2 → Nat :=
  let c0_i32_1379 : BitVec 32 := 0#32
  ![v568.toNat, 0]

def k0_chk57 (v568 : BitVec 32) : Prop :=
  (∀ a, (k0_off58 v568) a + S1x64.size a ≤ S442368x64.size a) ∧
  (∀ a, (k0_off122 v568) a + S1x64.size a ≤ S442368x64.size a)
theorem k0_off58_inb : ∀ (v568 : BitVec 32) (k0_hw57 : k0_chk57 v568), ∀ a, (k0_off58 v568) a + S1x64.size a ≤ S442368x64.size a := fun v568 k0_hw57 => k0_hw57.1
theorem k0_off122_inb : ∀ (v568 : BitVec 32) (k0_hw57 : k0_chk57 v568), ∀ a, (k0_off122 v568) a + S1x64.size a ≤ S442368x64.size a := fun v568 k0_hw57 => k0_hw57.2

def k0_off123 (v578 : BitVec 32) : Fin 2 → Nat :=
  let c0_i32_1391 : BitVec 32 := 0#32
  ![v578.toNat, 0]

def k0_chk58 (v578 : BitVec 32) : Prop :=
  (∀ a, (k0_off59 v578) a + S1x64.size a ≤ S442368x64.size a) ∧
  (∀ a, (k0_off123 v578) a + S1x64.size a ≤ S442368x64.size a)
theorem k0_off59_inb : ∀ (v578 : BitVec 32) (k0_hw58 : k0_chk58 v578), ∀ a, (k0_off59 v578) a + S1x64.size a ≤ S442368x64.size a := fun v578 k0_hw58 => k0_hw58.1
theorem k0_off123_inb : ∀ (v578 : BitVec 32) (k0_hw58 : k0_chk58 v578), ∀ a, (k0_off123 v578) a + S1x64.size a ≤ S442368x64.size a := fun v578 k0_hw58 => k0_hw58.2

def k0_off124 (v588 : BitVec 32) : Fin 2 → Nat :=
  let c0_i32_1403 : BitVec 32 := 0#32
  ![v588.toNat, 0]

def k0_chk59 (v588 : BitVec 32) : Prop :=
  (∀ a, (k0_off60 v588) a + S1x64.size a ≤ S442368x64.size a) ∧
  (∀ a, (k0_off124 v588) a + S1x64.size a ≤ S442368x64.size a)
theorem k0_off60_inb : ∀ (v588 : BitVec 32) (k0_hw59 : k0_chk59 v588), ∀ a, (k0_off60 v588) a + S1x64.size a ≤ S442368x64.size a := fun v588 k0_hw59 => k0_hw59.1
theorem k0_off124_inb : ∀ (v588 : BitVec 32) (k0_hw59 : k0_chk59 v588), ∀ a, (k0_off124 v588) a + S1x64.size a ≤ S442368x64.size a := fun v588 k0_hw59 => k0_hw59.2

def k0_off125 (v598 : BitVec 32) : Fin 2 → Nat :=
  let c0_i32_1415 : BitVec 32 := 0#32
  ![v598.toNat, 0]

def k0_chk60 (v598 : BitVec 32) : Prop :=
  (∀ a, (k0_off61 v598) a + S1x64.size a ≤ S442368x64.size a) ∧
  (∀ a, (k0_off125 v598) a + S1x64.size a ≤ S442368x64.size a)
theorem k0_off61_inb : ∀ (v598 : BitVec 32) (k0_hw60 : k0_chk60 v598), ∀ a, (k0_off61 v598) a + S1x64.size a ≤ S442368x64.size a := fun v598 k0_hw60 => k0_hw60.1
theorem k0_off125_inb : ∀ (v598 : BitVec 32) (k0_hw60 : k0_chk60 v598), ∀ a, (k0_off125 v598) a + S1x64.size a ≤ S442368x64.size a := fun v598 k0_hw60 => k0_hw60.2

def k0_off126 (v608 : BitVec 32) : Fin 2 → Nat :=
  let c0_i32_1427 : BitVec 32 := 0#32
  ![v608.toNat, 0]

def k0_chk61 (v608 : BitVec 32) : Prop :=
  (∀ a, (k0_off62 v608) a + S1x64.size a ≤ S442368x64.size a) ∧
  (∀ a, (k0_off126 v608) a + S1x64.size a ≤ S442368x64.size a)
theorem k0_off62_inb : ∀ (v608 : BitVec 32) (k0_hw61 : k0_chk61 v608), ∀ a, (k0_off62 v608) a + S1x64.size a ≤ S442368x64.size a := fun v608 k0_hw61 => k0_hw61.1
theorem k0_off126_inb : ∀ (v608 : BitVec 32) (k0_hw61 : k0_chk61 v608), ∀ a, (k0_off126 v608) a + S1x64.size a ≤ S442368x64.size a := fun v608 k0_hw61 => k0_hw61.2

def k0_off127 (v618 : BitVec 32) : Fin 2 → Nat :=
  let c0_i32_1439 : BitVec 32 := 0#32
  ![v618.toNat, 0]

def k0_chk62 (v618 : BitVec 32) : Prop :=
  (∀ a, (k0_off63 v618) a + S1x64.size a ≤ S442368x64.size a) ∧
  (∀ a, (k0_off127 v618) a + S1x64.size a ≤ S442368x64.size a)
theorem k0_off63_inb : ∀ (v618 : BitVec 32) (k0_hw62 : k0_chk62 v618), ∀ a, (k0_off63 v618) a + S1x64.size a ≤ S442368x64.size a := fun v618 k0_hw62 => k0_hw62.1
theorem k0_off127_inb : ∀ (v618 : BitVec 32) (k0_hw62 : k0_chk62 v618), ∀ a, (k0_off127 v618) a + S1x64.size a ≤ S442368x64.size a := fun v618 k0_hw62 => k0_hw62.2

def k0_off128 (v628 : BitVec 32) : Fin 2 → Nat :=
  let c0_i32_1451 : BitVec 32 := 0#32
  ![v628.toNat, 0]

def k0_chk63 (v628 : BitVec 32) : Prop :=
  (∀ a, (k0_off64 v628) a + S1x64.size a ≤ S442368x64.size a) ∧
  (∀ a, (k0_off128 v628) a + S1x64.size a ≤ S442368x64.size a)
theorem k0_off64_inb : ∀ (v628 : BitVec 32) (k0_hw63 : k0_chk63 v628), ∀ a, (k0_off64 v628) a + S1x64.size a ≤ S442368x64.size a := fun v628 k0_hw63 => k0_hw63.1
theorem k0_off128_inb : ∀ (v628 : BitVec 32) (k0_hw63 : k0_chk63 v628), ∀ a, (k0_off128 v628) a + S1x64.size a ≤ S442368x64.size a := fun v628 k0_hw63 => k0_hw63.2

def k0_off129 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_1473_r1 : BitVec 32 := 0#32
  ![v2.toNat, 0]
abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8192x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "ln2_over_n" => some (((Real.log 2) * (1 / 2048) : ℝ) : EReal)
  | "log2e" => some (((Real.log 2)⁻¹ : ℝ) : EReal)
  | "scale" => some (((100 / 7) * (Real.log 2)⁻¹ : ℝ) : EReal)
  | _ => none
-- ==== Reference.lean ====
abbrev S4x64x48x48x48 : Shape := ⟨5, ![4, 64, 48, 48, 48]⟩
abbrev S4x1x48x48x48 : Shape := ⟨5, ![4, 1, 48, 48, 48]⟩
abbrev S2048 : Shape := ⟨1, ![2048]⟩
abbrev S8192x64 : Shape := ⟨2, ![8192, 64]⟩
abbrev S4x48x48x48x64 : Shape := ⟨5, ![4, 48, 48, 48, 64]⟩
abbrev S442368x64 : Shape := ⟨2, ![442368, 64]⟩
abbrev S4x48x48x48x1 : Shape := ⟨5, ![4, 48, 48, 48, 1]⟩
abbrev S442368x1 : Shape := ⟨2, ![442368, 1]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S2048x64 : Shape := ⟨2, ![2048, 64]⟩
abbrev S64x8192 : Shape := ⟨2, ![64, 8192]⟩
abbrev S2048x8192 : Shape := ⟨2, ![2048, 8192]⟩
abbrev S2048x8193 : Shape := ⟨2, ![2048, 8193]⟩

abbrev nBuf : Space → Nat
  | .hbm => 120
  | .vmem => 0
  | .smem => 0
  | _ => 0

abbrev bufTy : (tb : Table) → Fin (tcTables nBuf tb) → BufTy
  | .hbm, ⟨0, _⟩ => ⟨S4x64x48x48x48, .f32⟩
  | .hbm, ⟨1, _⟩ => ⟨S4x64x48x48x48, .f32⟩
  | .hbm, ⟨2, _⟩ => ⟨S4x1x48x48x48, .f32⟩
  | .hbm, ⟨3, _⟩ => ⟨S4x1x48x48x48, .f32⟩
  | .hbm, ⟨4, _⟩ => ⟨S2048, .i32⟩
  | .hbm, ⟨5, _⟩ => ⟨S8192x64, .f32⟩
  | .hbm, ⟨6, _⟩ => ⟨S4x48x48x48x64, .f32⟩
  | .hbm, ⟨7, _⟩ => ⟨S442368x64, .f32⟩
  | .hbm, ⟨8, _⟩ => ⟨S4x48x48x48x64, .f32⟩
  | .hbm, ⟨9, _⟩ => ⟨S442368x64, .f32⟩
  | .hbm, ⟨10, _⟩ => ⟨S4x1x48x48x48, .f32⟩
  | .hbm, ⟨11, _⟩ => ⟨S4x48x48x48x1, .f32⟩
  | .hbm, ⟨12, _⟩ => ⟨S442368x1, .f32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S_, .i32⟩
  | .hbm, ⟨17, _⟩ => ⟨S2048, .i32⟩
  | .hbm, ⟨18, _⟩ => ⟨S2048, .i32⟩
  | .hbm, ⟨19, _⟩ => ⟨S2048, .i32⟩
  | .hbm, ⟨20, _⟩ => ⟨S2048x1, .i32⟩
  | .hbm, ⟨21, _⟩ => ⟨S1, .i32⟩
  | .hbm, ⟨22, _⟩ => ⟨S_, .i32⟩
  | .hbm, ⟨23, _⟩ => ⟨S2048x1, .i32⟩
  | .hbm, ⟨24, _⟩ => ⟨S2048x1, .i1⟩
  | .hbm, ⟨25, _⟩ => ⟨S1x1, .i32⟩
  | .hbm, ⟨26, _⟩ => ⟨S2048x1, .i32⟩
  | .hbm, ⟨27, _⟩ => ⟨S2048x1, .i1⟩
  | .hbm, ⟨28, _⟩ => ⟨S2048x1, .i1⟩
  | .hbm, ⟨29, _⟩ => ⟨S_, .i1⟩
  | .hbm, ⟨30, _⟩ => ⟨S2048, .i1⟩
  | .hbm, ⟨31, _⟩ => ⟨S2048x64, .f32⟩
  | .hbm, ⟨32, _⟩ => ⟨S2048x64, .i1⟩
  | .hbm, ⟨33, _⟩ => ⟨S_, .f32⟩
  | .hbm, ⟨34, _⟩ => ⟨S2048x64, .f32⟩
  | .hbm, ⟨35, _⟩ => ⟨S2048x64, .f32⟩
  | .hbm, ⟨36, _⟩ => ⟨S_, .i32⟩
  | .hbm, ⟨37, _⟩ => ⟨S2048, .i32⟩
  | .hbm, ⟨38, _⟩ => ⟨S2048, .i1⟩
  | .hbm, ⟨39, _⟩ => ⟨S_, .i32⟩
  | .hbm, ⟨40, _⟩ => ⟨S2048, .i32⟩
  | .hbm, ⟨41, _⟩ => ⟨S2048, .i32⟩
  | .hbm, ⟨42, _⟩ => ⟨S2048, .i32⟩
  | .hbm, ⟨43, _⟩ => ⟨S2048x1, .i32⟩
  | .hbm, ⟨44, _⟩ => ⟨S1, .i32⟩
  | .hbm, ⟨45, _⟩ => ⟨S_, .i32⟩
  | .hbm, ⟨46, _⟩ => ⟨S2048x1, .i32⟩
  | .hbm, ⟨47, _⟩ => ⟨S2048x1, .i1⟩
  | .hbm, ⟨48, _⟩ => ⟨S1x1, .i32⟩
  | .hbm, ⟨49, _⟩ => ⟨S2048x1, .i32⟩
  | .hbm, ⟨50, _⟩ => ⟨S2048x1, .i1⟩
  | .hbm, ⟨51, _⟩ => ⟨S2048x1, .i1⟩
  | .hbm, ⟨52, _⟩ => ⟨S_, .i1⟩
  | .hbm, ⟨53, _⟩ => ⟨S2048, .i1⟩
  | .hbm, ⟨54, _⟩ => ⟨S2048x64, .f32⟩
  | .hbm, ⟨55, _⟩ => ⟨S2048x64, .i1⟩
  | .hbm, ⟨56, _⟩ => ⟨S_, .f32⟩
  | .hbm, ⟨57, _⟩ => ⟨S2048x64, .f32⟩
  | .hbm, ⟨58, _⟩ => ⟨S2048x64, .f32⟩
  | .hbm, ⟨59, _⟩ => ⟨S_, .i32⟩
  | .hbm, ⟨60, _⟩ => ⟨S2048, .i32⟩
  | .hbm, ⟨61, _⟩ => ⟨S2048, .i1⟩
  | .hbm, ⟨62, _⟩ => ⟨S_, .i32⟩
  | .hbm, ⟨63, _⟩ => ⟨S2048, .i32⟩
  | .hbm, ⟨64, _⟩ => ⟨S2048, .i32⟩
  | .hbm, ⟨65, _⟩ => ⟨S2048, .i32⟩
  | .hbm, ⟨66, _⟩ => ⟨S2048x1, .i32⟩
  | .hbm, ⟨67, _⟩ => ⟨S1, .i32⟩
  | .hbm, ⟨68, _⟩ => ⟨S_, .i32⟩
  | .hbm, ⟨69, _⟩ => ⟨S2048x1, .i32⟩
  | .hbm, ⟨70, _⟩ => ⟨S2048x1, .i1⟩
  | .hbm, ⟨71, _⟩ => ⟨S1x1, .i32⟩
  | .hbm, ⟨72, _⟩ => ⟨S2048x1, .i32⟩
  | .hbm, ⟨73, _⟩ => ⟨S2048x1, .i1⟩
  | .hbm, ⟨74, _⟩ => ⟨S2048x1, .i1⟩
  | .hbm, ⟨75, _⟩ => ⟨S_, .i1⟩
  | .hbm, ⟨76, _⟩ => ⟨S2048, .i1⟩
  | .hbm, ⟨77, _⟩ => ⟨S2048x1, .f32⟩
  | .hbm, ⟨78, _⟩ => ⟨S2048x1, .i1⟩
  | .hbm, ⟨79, _⟩ => ⟨S_, .f32⟩
  | .hbm, ⟨80, _⟩ => ⟨S2048x1, .f32⟩
  | .hbm, ⟨81, _⟩ => ⟨S2048x1, .f32⟩
  | .hbm, ⟨82, _⟩ => ⟨S2048x64, .f32⟩
  | .hbm, ⟨83, _⟩ => ⟨S_, .f32⟩
  | .hbm, ⟨84, _⟩ => ⟨S2048, .f32⟩
  | .hbm, ⟨85, _⟩ => ⟨S2048x1, .f32⟩
  | .hbm, ⟨86, _⟩ => ⟨S64x8192, .f32⟩
  | .hbm, ⟨87, _⟩ => ⟨S2048x8192, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S2048x8193, .f32⟩
  | .hbm, ⟨92, _⟩ => ⟨S2048x8193, .f32⟩
  | .hbm, ⟨93, _⟩ => ⟨S2048x8193, .f32⟩
  | .hbm, ⟨94, _⟩ => ⟨S_, .f32⟩
  | .hbm, ⟨95, _⟩ => ⟨S2048, .f32⟩
  | .hbm, ⟨96, _⟩ => ⟨S_, .f32⟩
  | .hbm, ⟨97, _⟩ => ⟨S2048, .f32⟩
  | .hbm, ⟨98, _⟩ => ⟨S2048, .f32⟩
  | .hbm, ⟨99, _⟩ => ⟨S2048x1, .f32⟩
  | .hbm, ⟨100, _⟩ => ⟨S2048x8193, .f32⟩
  | .hbm, ⟨101, _⟩ => ⟨S2048x8193, .f32⟩
  | .hbm, ⟨102, _⟩ => ⟨S2048x8193, .f32⟩
  | .hbm, ⟨103, _⟩ => ⟨S_, .f32⟩
  | .hbm, ⟨104, _⟩ => ⟨S2048, .f32⟩
  | .hbm, ⟨105, _⟩ => ⟨S2048x1, .f32⟩
  | .hbm, ⟨106, _⟩ => ⟨S2048x1, .f32⟩
  | .hbm, ⟨107, _⟩ => ⟨S2048x8193, .f32⟩
  | .hbm, ⟨108, _⟩ => ⟨S2048x8193, .f32⟩
  | .hbm, ⟨109, _⟩ => ⟨S2048x1, .f32⟩
  | .hbm, ⟨110, _⟩ => ⟨S2048, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | _, _ => ⟨S4x64x48x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v7 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v8 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_call2_cst : Ref sig .tc := ⟨.hbm, 79, rfl⟩
abbrev main_call2_v15 : Ref sig .tc := ⟨.hbm, 80, rfl⟩
abbrev main_v9 : Ref sig .tc := ⟨.hbm, 81, rfl⟩
abbrev main_v10 : Ref sig .tc := ⟨.hbm, 82, rfl⟩
abbrev main_cst : Ref sig .tc := ⟨.hbm, 83, rfl⟩
abbrev main_v11 : Ref sig .tc := ⟨.hbm, 84, rfl⟩
abbrev main_v12 : Ref sig .tc := ⟨.hbm, 85, rfl⟩
abbrev main_v13 : Ref sig .tc := ⟨.hbm, 86, rfl⟩
abbrev main_v14 : Ref sig .tc := ⟨.hbm, 87, rfl⟩
abbrev main_cst_0 : Ref sig .tc := ⟨.hbm, 88, rfl⟩
abbrev main_cst_1 : Ref sig .tc := ⟨.hbm, 89, rfl⟩
abbrev main_v15 : Ref sig .tc := ⟨.hbm, 90, rfl⟩
abbrev main_v16 : Ref sig .tc := ⟨.hbm, 91, rfl⟩
abbrev main_v17 : Ref sig .tc := ⟨.hbm, 92, rfl⟩
abbrev main_v18 : Ref sig .tc := ⟨.hbm, 93, rfl⟩
abbrev main_call3_cst : Ref sig .tc := ⟨.hbm, 94, rfl⟩
abbrev main_call3_v0 : Ref sig .tc := ⟨.hbm, 95, rfl⟩
abbrev main_call3_cst_0 : Ref sig .tc := ⟨.hbm, 96, rfl⟩
abbrev main_call3_v1 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_v5 : Ref sig .tc := ⟨.hbm, 101, rfl⟩
abbrev main_call3_v6 : Ref sig .tc := ⟨.hbm, 102, rfl⟩
abbrev main_call3_cst_1 : Ref sig .tc := ⟨.hbm, 103, rfl⟩
abbrev main_call3_v7 : Ref sig .tc := ⟨.hbm, 104, rfl⟩
abbrev main_call3_v8 : Ref sig .tc := ⟨.hbm, 105, rfl⟩
abbrev main_call3_v9 : Ref sig .tc := ⟨.hbm, 106, rfl⟩
abbrev main_call3_v10 : Ref sig .tc := ⟨.hbm, 107, rfl⟩
abbrev main_v19 : Ref sig .tc := ⟨.hbm, 108, rfl⟩
abbrev main_v20 : Ref sig .tc := ⟨.hbm, 109, rfl⟩
abbrev main_v21 : Ref sig .tc := ⟨.hbm, 110, rfl⟩
abbrev main_cst_2 : Ref sig .tc := ⟨.hbm, 111, rfl⟩
abbrev main_v22 : Ref sig .tc := ⟨.hbm, 112, rfl⟩
abbrev main_cst_3 : Ref sig .tc := ⟨.hbm, 113, rfl⟩
abbrev main_v23 : Ref sig .tc := ⟨.hbm, 114, rfl⟩
abbrev main_v24 : Ref sig .tc := ⟨.hbm, 115, rfl⟩
abbrev main_cst_4 : Ref sig .tc := ⟨.hbm, 116, rfl⟩
abbrev main_v25 : Ref sig .tc := ⟨.hbm, 117, rfl⟩
abbrev main_cst_5 : Ref sig .tc := ⟨.hbm, 118, rfl⟩
abbrev main_v26 : Ref sig .tc := ⟨.hbm, 119, rfl⟩

abbrev nD : Nat := 1
abbrev τ : Topo := Topo.v7x

variable {F : FTy → Type} [FloatOps F]
-- ==== Proof.Setup.lean ====
/-
  The program as the launch theorem sees it, the ghost state of the run, and the names of the buffers that the gather
  kernel reads and writes.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Batch
public import Idealize.ShloMosaic.Lib.Writes
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Moco

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The launch's view of the program -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct and live where the launch uses them. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state: the launch's handshakes, the pipeline's staging cells, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' copy of the rounds algebra. -/
abbrev EH : Emb UH (MT nD τ sig (HIx 1) (Elt F) ℕ UU ℕ) := embL
/-- The staging cells' copy. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The buffers of the gather -/

/-- The two tables, the sample indices and the two results, as buffers of device `d`. -/
abbrev e0Loc (d : Dev nD) : Loc nD τ sig := (SparseCore.T d).loc main_v1
abbrev e1Loc (d : Dev nD) : Loc nD τ sig := (SparseCore.T d).loc main_v3
abbrev pLoc (d : Dev nD) : Loc nD τ sig := (SparseCore.T d).loc main_arg4
abbrev qLoc (d : Dev nD) : Loc nD τ sig := (SparseCore.T d).loc main_v4_0
abbrev kLoc (d : Dev nD) : Loc nD τ sig := (SparseCore.T d).loc main_v4_1

/-- The same, and the task's scratch, as a vector subcore names them. -/
abbrev e0V : Memref sig .scVector .hbm S442368x64 .f32 := Memref.whole main_v1_scv
abbrev e1V : Memref sig .scVector .hbm S442368x64 .f32 := Memref.whole main_v3_scv
abbrev pV : Memref sig .scVector .hbm S2048 .i32 := Memref.whole main_arg4_scv
abbrev qV : Memref sig .scVector .hbm S2048x64 .f32 := Memref.whole main_v4_0_scv
abbrev kV : Memref sig .scVector .hbm S2048x64 .f32 := Memref.whole main_v4_1_scv
abbrev xV : Memref sig .scVector .vmem S64 .i32 := Memref.whole cc0_scratch0
abbrev r0V : Memref sig .scVector .vmem S64x64 .f32 := Memref.whole cc0_scratch1
abbrev r1V : Memref sig .scVector .vmem S64x64 .f32 := Memref.whole cc0_scratch2

/-- The subcore that runs the task at grid coordinates `L`. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The grid coordinates of core `c`'s task `s`. -/
def coordsV (c : Fin (grid0.bound 0)) (s : Fin (grid0.bound 1)) : grid0.Coords :=
  fun | 0 => c | 1 => s | ⟨_ + 2, h⟩ => absurd h (Nat.not_lt.2 (Nat.le_add_left _ _))

/-- The first sample of the task at `L`: each task takes 64. -/
abbrev base (L : grid0.Coords) : ℕ := 128 * (L 1).val + 64 * (L 0).val

/-! ## What the gather computes -/

/-- Element `(n, k)` of a table, the row number taken modulo the table's rows (it is below them). -/
def rowIx (n : ℕ) (k : Fin 64) : S442368x64.Idx :=
  fun | 0 => ⟨n % 442368, Nat.mod_lt _ (by decide)⟩ | 1 => k

/-- Row `i` of the result is the table's row at the `i`-th sample index. -/
def gath {α : Type} (e : S442368x64.Idx → α) (p : S2048.Idx → BitVec 32) : S2048x64.Idx → α :=
  fun j => e (rowIx (p (fun | 0 => j 0)).toNat (j 1))

end Cert.Proof.Moco

end
-- ==== Proof.Tile.lean ====
/-
  One task of the gather: 64 row copies out of each table, all in flight on one semaphore per table, then the two
  64-row results written out.
-/
module

public import proofs.«01_k».proof.Proof.Setup

@[expose] public section

noncomputable section

namespace Cert.Proof.Moco

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F] [Named F]

local notation "𝕄" => MT nD τ sig (HIx 1) (Elt F) ℕ UU ℕ

variable (d : Dev nD) (L : grid0.Coords)

/-! ## One table's copies -/

theorem rowInb (t : Fin 64) : ∀ a, (![t.val, 0] : Fin 2 → ℕ) a + S1x64.size a ≤ S64x64.size a := by
  have := t.isLt
  intro a
  match a with
  | 0 => show t.val + 1 ≤ 64; omega
  | 1 => show 0 + 64 ≤ 64; omega

/-- Row `t` of a task's buffer. -/
abbrev rowM (b : Memref sig .scVector .vmem S64x64 .f32) (t : Fin 64) : Memref sig .scVector .vmem S1x64 .f32 :=
  b.slice (Rect.unit (s := S64x64) ![t.val, 0] S1x64.size (rowInb t)) (fun _ => rfl)

/-- The units one row's copy puts on its semaphore. -/
def rowN : ℕ := (rowM r0V 0).view.dmaCredit

/-- What the copy of row `t` delivers: the row at the gathered contents `G`. -/
def SideD (b : Memref sig .scVector .vmem S64x64 .f32) (G : Buf (Elt F) (b.view.loc (thr d L))) (t : Fin 64) : sProp 𝕄 :=
  b.view.loc (thr d L) ↦[(rowM b t).view.set]{fullShare} G

instance (b : Memref sig .scVector .vmem S64x64 .f32) (G : Buf (Elt F) (b.view.loc (thr d L))) (t : Fin 64) :
    Storable (upEmb : UEmb _ 𝕄) (SideD d L b G t) := by unfold SideD; infer_instance

/-- One table's side of the task after `a` copies are issued and `u` units waited for: the copies in flight, and for
    each copy still to come its row of the buffer and its share of the table. -/
def Side (tab : Memref sig .scVector .hbm S442368x64 .f32) (b : Memref sig .scVector .vmem S64x64 .f32) (sem : DmaSem sig)
    (E : Buf (Elt F) (tab.view.loc (thr d L))) (q : PosShare TreeShare) (f G : Buf (Elt F) (b.view.loc (thr d L))) (a u : ℕ) : sProp 𝕄 :=
  iprop(Batch countersEmb (thr d L) (.dma sem) (default : HIx 1) rowN (SideD d L b G) a u
    ∗ bigSep (pending a) fun t : Fin 64 =>
        iprop((b.view.loc (thr d L) ↦[(rowM b t).view.set]{fullShare} f) ∗ (tab.view.loc (thr d L) ↦{shareTok q 64 t} E)))

section

variable {tab : Memref sig .scVector .hbm S442368x64 .f32} {b : Memref sig .scVector .vmem S64x64 .f32} {sem : DmaSem sig}
  {E : Buf (Elt F) (tab.view.loc (thr d L))} {q : PosShare TreeShare} {f G : Buf (Elt F) (b.view.loc (thr d L))}
  {α : Type} {Q : α → sProp (MT nD τ sig (HIx 1) (Elt F) ℕ UU ℕ)} {k : PUnit → Prog (TpuEff nD τ sig (Elt F) Λ₀ (thr d L).2) α}

/-- Issuing the copy of row `a`. -/
theorem side_issue {a u : ℕ} (ha : a < 64) (hu : u ≤ a * rowN) (hN : (rowM b ⟨a, ha⟩).view.amount (.dma sem : SemLoc sig) = rowN)
    {p : Fin 2 → ℕ} {hp : ∀ x, p x + S1x64.size x ≤ S442368x64.size x}
    {o : Fin 2 → ℕ} {ho : ∀ x, o x + S1x64.size x ≤ S64x64.size x} (eo : o = ![a, 0])
    (hG : (rowM b ⟨a, ha⟩).view.read (Elt F) G
      = (tab.slice (Rect.unit (s := S442368x64) p S1x64.size hp) (fun _ => rfl)).view.read (Elt F) E)
    {h1 h2 h3} :
    Side d L tab b sem E q f G a u
      ⊢ iprop((Side d L tab b sem E q f G (a + 1) u -∗ wp frame (wpE (defs₀ (F := F)) 𝒱₀ (thr d L) none) Set.univ (k ⟨⟩) Q)
          -∗ wp frame (wpE (defs₀ (F := F)) 𝒱₀ (thr d L) none) Set.univ
            (.op (.enqueueDma (tab.slice (Rect.unit (s := S442368x64) p S1x64.size hp) (fun _ => rfl))
              (.here (b.slice (Rect.unit (s := S64x64) o S1x64.size ho) (fun _ => rfl))) (.dma sem) h1 h2 h3) k) Q) := by
  subst eo
  unfold Side
  rw [bigSep_pending_step _ a ha]
  iintro ⟨HB, ⟨⟨Hr, Ht⟩, Hp⟩⟩ Hk
  ihave Ht' := (pointsTo_split_subset (Finset.subset_univ
    (tab.slice (Rect.unit (s := S442368x64) p S1x64.size hp) (fun _ => rfl)).view.set)).1 $$ Ht
  icases Ht' with ⟨Ht, -⟩
  iapply (wp_dmaBatch countersEmb 𝒱₀ (thr d L) none (default : HIx 1) rowN (dst := rowM b ⟨a, ha⟩) hN (Finset.Subset.refl _) ha hu
    (D := SideD d L b G) ?_) $$ [HB Hr Ht]
  rotate_left
  · isplitl [Ht]; · iexact Ht
    isplitl [Hr]; · iexact Hr
    iexact HB
  · iintro HB
    iapply Hk
    isplitl [HB]; · iexact HB
    iexact Hp
  · iintro ⟨Hd, -⟩
    unfold SideD
    iapply (Entails.of_eq (pointsTo_congr (fun i hi => ?_))) $$ Hd
    obtain ⟨x, -, rfl⟩ := Finset.mem_map.mp hi
    rw [View.write_emb_of_mem _ _ (Finset.mem_univ x)]
    have e : (tab.slice (Rect.unit (s := S442368x64) p S1x64.size hp) (fun _ => rfl)).view.read (Elt F) E x
        = (rowM b ⟨a, ha⟩).view.read (Elt F) G x := (congrFun hG x).symm
    exact (congrArg _ e).trans (by rw [View.read_apply, cast_cast, cast_eq])

/-- A wait for one row's units, with fewer waited for than issued. -/
theorem side_wait {a j : ℕ} (hj : j < a) {O : CellTallies nD τ sig (HIx 1)} {W : Waits sig (HIx 1)} {sp' sp₂ : Space} {s' s₂ : Shape} {e' e₂ : EltTy}
    {src : Memref sig .scVector sp' s' e'} {dst : Memref sig .scVector sp₂ s₂ e₂} (hN : dst.view.dmaCredit = rowN) {h1 h2} :
    iprop(Side d L tab b sem E q f G a (j * rowN) ∗ owes (thr d L) O W ∗ MayWait (thr d L) (.dma sem) (default : HIx 1) O)
      ⊢ iprop((iprop(Side d L tab b sem E q f G a ((j + 1) * rowN) ∗ owes (thr d L) O (insert (SemLoc.dma sem, default) W))
            -∗ wp frame (wpE (defs₀ (F := F)) 𝒱₀ (thr d L) none) Set.univ (k ⟨⟩) Q)
          -∗ wp frame (wpE (defs₀ (F := F)) 𝒱₀ (thr d L) none) Set.univ (.op (.waitDma2 sem src dst h1 h2) k) Q) := by
  unfold Side
  rw [show (j + 1) * rowN = j * rowN + 1 * rowN from Nat.add_mul j 1 rowN]
  iintro ⟨⟨HB, Hp⟩, HO, Hm⟩ Hk
  iapply (wp_waitBatchMulO countersEmb 𝒱₀ (thr d L) none (default : HIx 1) (N := rowN) 1 (by rw [hN, Nat.one_mul])
    (show j * rowN + 1 * rowN ≤ rowN * a by rw [← Nat.add_mul, Nat.mul_comm]; exact Nat.mul_le_mul_left _ hj)) $$ [HB HO Hm]
  · isplitl [HB]; · iexact HB
    isplitl [HO]; · iexact HO
    iexact Hm
  · iintro ⟨HB, HO⟩
    iapply Hk
    isplitr [HO]
    · isplitl [HB]; · iexact HB
      iexact Hp
    · iexact HO

end

/-! ## The whole task, step by step -/

/-- Word `n` of the 64 sample indices a task fetched. -/
def wd (X : S64.Idx → BitVec 32) (n : ℕ) : BitVec 32 := X (fun | 0 => ⟨n % 64, Nat.mod_lt _ (by decide)⟩)

/-- A fixed word below the table's row count is the number of a row. -/
theorem inrow {v w : BitVec 32} (e : v = w) (h : w.toNat < 442368) :
    ∀ a, (![v.toNat, 0] : Fin 2 → ℕ) a + S1x64.size a ≤ S442368x64.size a := by
  subst e
  intro a
  match a with
  | 0 => show v.toNat + 1 ≤ 442368; omega
  | 1 => show 0 + 64 ≤ 64; omega

section

variable (E0 : Buf (Elt F) ((e0V).view.loc (thr d L))) (E1 : Buf (Elt F) ((e1V).view.loc (thr d L))) (q : PosShare TreeShare)
  (f0 G0 : Buf (Elt F) ((r0V).view.loc (thr d L))) (f1 G1 : Buf (Elt F) ((r1V).view.loc (thr d L)))
  (X : Buf (Elt F) ((xV).view.loc (thr d L)))
  (O : CellTallies nD τ sig (HIx 1)) (W : Waits sig (HIx 1)) (R : sProp (MT nD τ sig (HIx 1) (Elt F) ℕ UU ℕ))

/-- What the task owes, its own waits apart. -/
def Ow : sProp 𝕄 :=
  iprop(levAts (K (F := F)).L (K (F := F)).lev ∗ ∃ W', ⌜∀ p ∈ W', p ∈ W ∨ p.2 = none⌝ ∗ owes (thr d L) O W')

/-- Between the fetch of the indices and the write-out: `a` and `b` copies issued from the two tables, `j` and `l` of
    them waited for, the fetched words in the index buffer, and the rest `R`. -/
def Inv (a b j l : ℕ) : sProp 𝕄 :=
  iprop(Side d L e0V r0V cc0_scratch3.sem E0 q f0 G0 a (j * rowN) ∗ Side d L e1V r1V cc0_scratch4.sem E1 q f1 G1 b (l * rowN)
    ∗ ((xV).view.loc (thr d L) ↦{fullShare} X) ∗ Ow d L O W ∗ R)

variable {α β : Type} {Q : β → sProp (MT nD τ sig (HIx 1) (Elt F) ℕ UU ℕ)} {k : PUnit → Prog (TpuEff nD τ sig (Elt F) Λ₀ (thr d L).2) β}

theorem step_assoc {γ : Type} {P : sProp 𝕄} {p : Prog (TpuEff nD τ sig (Elt F) Λ₀ (thr d L).2) γ}
    {f : γ → Prog (TpuEff nD τ sig (Elt F) Λ₀ (thr d L).2) α} {g : α → Prog (TpuEff nD τ sig (Elt F) Λ₀ (thr d L).2) β}
    (h : P ⊢ wp frame (wpE (defs₀ (F := F)) 𝒱₀ (thr d L) none) Set.univ (p >>= fun x => f x >>= g) Q) :
    P ⊢ wp frame (wpE (defs₀ (F := F)) 𝒱₀ (thr d L) none) Set.univ ((p >>= f) >>= g) Q := by
  rw [bind_assoc]; exact h

theorem step_pure {P : sProp 𝕄} {x : α} {g : α → Prog (TpuEff nD τ sig (Elt F) Λ₀ (thr d L).2) β}
    (h : P ⊢ wp frame (wpE (defs₀ (F := F)) 𝒱₀ (thr d L) none) Set.univ (g x) Q) :
    P ⊢ wp frame (wpE (defs₀ (F := F)) 𝒱₀ (thr d L) none) Set.univ (pure x >>= g) Q := by
  rw [pure_bind]; exact h

theorem step_assume {P : sProp 𝕄} {A : Prop} {dec : Decidable A} (hA : A)
    {g : PLift A → Prog (TpuEff nD τ sig (Elt F) Λ₀ (thr d L).2) β}
    (h : ∀ h' : PLift A, P ⊢ wp frame (wpE (defs₀ (F := F)) 𝒱₀ (thr d L) none) Set.univ (g h') Q) :
    P ⊢ wp frame (wpE (defs₀ (F := F)) 𝒱₀ (thr d L) none) Set.univ (Prog.lift (.assume A dec) >>= g) Q :=
  (h ⟨hA⟩).trans (wp_assume 𝒱₀ (thr d L) none Set.univ hA)

variable {d L E0 E1 q f0 G0 f1 G1 X O W R}

/-- A copy out of the first table. -/
theorem step_issue0 {a b j l : ℕ} (ha : a < 64) (hj : j ≤ a)
    {p : Fin 2 → ℕ} {hp : ∀ x, p x + S1x64.size x ≤ S442368x64.size x} (ep : p = ![(wd X a).toNat, 0])
    {o : Fin 2 → ℕ} {ho : ∀ x, o x + S1x64.size x ≤ S64x64.size x} (eo : o = ![a, 0])
    (hG : ∀ (t : Fin 64) hp, (rowM r0V t).view.read (Elt F) G0
      = ((e0V).slice (Rect.unit (s := S442368x64) ![(wd X t.val).toNat, 0] S1x64.size hp) (fun _ => rfl)).view.read (Elt F) E0)
    {h1 h2 h3}
    (h : Inv d L E0 E1 q f0 G0 f1 G1 X O W R (a + 1) b j l ⊢ wp frame (wpE (defs₀ (F := F)) 𝒱₀ (thr d L) none) Set.univ (k ⟨⟩) Q) :
    Inv d L E0 E1 q f0 G0 f1 G1 X O W R a b j l ⊢ wp frame (wpE (defs₀ (F := F)) 𝒱₀ (thr d L) none) Set.univ
      (Prog.lift (.enqueueDma ((e0V).slice (Rect.unit (s := S442368x64) p S1x64.size hp) (fun _ => rfl))
              (.here ((r0V).slice (Rect.unit (s := S64x64) o S1x64.size ho) (fun _ => rfl))) (.dma cc0_scratch3.sem) h1 h2 h3) >>= k) Q := by
  subst ep
  unfold Inv at h ⊢
  iintro ⟨H0, H1, HX, HO, HR⟩
  iapply (side_issue d L ha (Nat.mul_le_mul_right _ hj) rfl eo (hG ⟨a, ha⟩ hp)) $$ [H0]
  · iexact H0
  · iintro H0
    iapply h $$ [H0 H1 HX HO HR]
    isplitl [H0]; · iexact H0
    isplitl [H1]; · iexact H1
    isplitl [HX]; · iexact HX
    isplitl [HO]; · iexact HO
    iexact HR

/-- A copy out of the second table. -/
theorem step_issue1 {a b j l : ℕ} (hb : b < 64) (hl : l ≤ b)
    {p : Fin 2 → ℕ} {hp : ∀ x, p x + S1x64.size x ≤ S442368x64.size x} (ep : p = ![(wd X b).toNat, 0])
    {o : Fin 2 → ℕ} {ho : ∀ x, o x + S1x64.size x ≤ S64x64.size x} (eo : o = ![b, 0])
    (hG : ∀ (t : Fin 64) hp, (rowM r1V t).view.read (Elt F) G1
      = ((e1V).slice (Rect.unit (s := S442368x64) ![(wd X t.val).toNat, 0] S1x64.size hp) (fun _ => rfl)).view.read (Elt F) E1)
    {h1 h2 h3}
    (h : Inv d L E0 E1 q f0 G0 f1 G1 X O W R a (b + 1) j l ⊢ wp frame (wpE (defs₀ (F := F)) 𝒱₀ (thr d L) none) Set.univ (k ⟨⟩) Q) :
    Inv d L E0 E1 q f0 G0 f1 G1 X O W R a b j l ⊢ wp frame (wpE (defs₀ (F := F)) 𝒱₀ (thr d L) none) Set.univ
      (Prog.lift (.enqueueDma ((e1V).slice (Rect.unit (s := S442368x64) p S1x64.size hp) (fun _ => rfl))
              (.here ((r1V).slice (Rect.unit (s := S64x64) o S1x64.size ho) (fun _ => rfl))) (.dma cc0_scratch4.sem) h1 h2 h3) >>= k) Q := by
  subst ep
  unfold Inv at h ⊢
  iintro ⟨H0, H1, HX, HO, HR⟩
  iapply (side_issue d L hb (Nat.mul_le_mul_right _ hl) rfl eo (hG ⟨b, hb⟩ hp)) $$ [H1]
  · iexact H1
  · iintro H1
    iapply h $$ [H0 H1 HX HO HR]
    isplitl [H0]; · iexact H0
    isplitl [H1]; · iexact H1
    isplitl [HX]; · iexact HX
    isplitl [HO]; · iexact HO
    iexact HR

/-- One more wait keeps what the task owes. -/
theorem waits_insert {W' : Waits sig (HIx 1)} {x : SemLoc sig} (hW : ∀ p ∈ W', p ∈ W ∨ p.2 = none) :
    ∀ p ∈ insert (x, (default : HIx 1)) W', p ∈ W ∨ p.2 = none := fun p hp => by
  rcases Finset.mem_insert.mp hp with rfl | hp
  · exact Or.inr rfl
  · exact hW p hp

/-- A wait on the first table's semaphore. -/
theorem step_wait0 (hO : ∀ g, O g none = 0) {a b j l : ℕ} (hj : j < a)
    {sp' sp₂ : Space} {s' s₂ : Shape} {e' e₂ : EltTy}
    {src : Memref sig .scVector sp' s' e'} {dst : Memref sig .scVector sp₂ s₂ e₂} (hN : dst.view.dmaCredit = rowN) {h1 h2}
    (h : Inv d L E0 E1 q f0 G0 f1 G1 X O W R a b (j + 1) l ⊢ wp frame (wpE (defs₀ (F := F)) 𝒱₀ (thr d L) none) Set.univ (k ⟨⟩) Q) :
    Inv d L E0 E1 q f0 G0 f1 G1 X O W R a b j l ⊢ wp frame (wpE (defs₀ (F := F)) 𝒱₀ (thr d L) none) Set.univ
      (Prog.lift (.waitDma2 cc0_scratch3.sem src dst h1 h2) >>= k) Q := by
  unfold Inv Ow at h ⊢
  iintro ⟨H0, H1, HX, ⟨#Hlv, ⟨%W', %hW, HO⟩⟩, HR⟩
  ihave Hm := ((K (F := F)).mayWait_none (thr := thr d L) (.dma cc0_scratch3.sem) hO) $$ Hlv
  iapply (side_wait d L hj (W := W') (src := src) (dst := dst) (h1 := h1) (h2 := h2) hN) $$ [H0 HO Hm]
  · isplitl [H0]; · iexact H0
    isplitl [HO]; · iexact HO
    iexact Hm
  · iintro ⟨H0, HO⟩
    iapply h $$ [H0 H1 HX HO HR]
    isplitl [H0]; · iexact H0
    isplitl [H1]; · iexact H1
    isplitl [HX]; · iexact HX
    isplitl [HO]
    · isplitr; · iexact Hlv
      iexists (insert (SemLoc.dma cc0_scratch3.sem, (default : HIx 1)) W')
      isplitr
      · ipureintro; exact waits_insert hW
      · iexact HO
    iexact HR

/-- A wait on the second table's semaphore. -/
theorem step_wait1 (hO : ∀ g, O g none = 0) {a b j l : ℕ} (hl : l < b)
    {sp' sp₂ : Space} {s' s₂ : Shape} {e' e₂ : EltTy}
    {src : Memref sig .scVector sp' s' e'} {dst : Memref sig .scVector sp₂ s₂ e₂} (hN : dst.view.dmaCredit = rowN) {h1 h2}
    (h : Inv d L E0 E1 q f0 G0 f1 G1 X O W R a b j (l + 1) ⊢ wp frame (wpE (defs₀ (F := F)) 𝒱₀ (thr d L) none) Set.univ (k ⟨⟩) Q) :
    Inv d L E0 E1 q f0 G0 f1 G1 X O W R a b j l ⊢ wp frame (wpE (defs₀ (F := F)) 𝒱₀ (thr d L) none) Set.univ
      (Prog.lift (.waitDma2 cc0_scratch4.sem src dst h1 h2) >>= k) Q := by
  unfold Inv Ow at h ⊢
  iintro ⟨H0, H1, HX, ⟨#Hlv, ⟨%W', %hW, HO⟩⟩, HR⟩
  ihave Hm := ((K (F := F)).mayWait_none (thr := thr d L) (.dma cc0_scratch4.sem) hO) $$ Hlv
  iapply (side_wait d L hl (W := W') (src := src) (dst := dst) (h1 := h1) (h2 := h2) hN) $$ [H1 HO Hm]
  · isplitl [H1]; · iexact H1
    isplitl [HO]; · iexact HO
    iexact Hm
  · iintro ⟨H1, HO⟩
    iapply h $$ [H0 H1 HX HO HR]
    isplitl [H0]; · iexact H0
    isplitl [H1]; · iexact H1
    isplitl [HX]; · iexact HX
    isplitl [HO]
    · isplitr; · iexact Hlv
      iexists (insert (SemLoc.dma cc0_scratch4.sem, (default : HIx 1)) W')
      isplitr
      · ipureintro; exact waits_insert hW
      · iexact HO
    iexact HR

/-- Loading 16 of the fetched words. -/
theorem step_load {a b j l c : ℕ} {ho : ∀ x, (![c] : Fin 1 → ℕ) x + S16.size x ≤ S64.size x}
    {hl} {g : Vec F S16 .i32 → Prog (TpuEff nD τ sig (Elt F) Λ₀ (thr d L).2) β}
    (h : ∀ v : Vec F S16 .i32, (∀ x : S16.Idx, v x = wd X (c + (x 0).val)) →
      Inv d L E0 E1 q f0 G0 f1 G1 X O W R a b j l ⊢ wp frame (wpE (defs₀ (F := F)) 𝒱₀ (thr d L) none) Set.univ (g v) Q) :
    Inv d L E0 E1 q f0 G0 f1 G1 X O W R a b j l ⊢ wp frame (wpE (defs₀ (F := F)) 𝒱₀ (thr d L) none) Set.univ
      (Prog.lift (.load xV (Rect.unit (s := S64) ![c] S16.size ho).toLoadRect hl) >>= g) Q := by
  have hc : c + 16 ≤ 64 := ho 0
  have h' := h ((xV).view.readAt (Elt F) (Rect.unit (s := S64) ![c] S16.size ho).toLoadRect X) (fun x => by
    have hx : (x 0).val < 16 := (x 0).isLt
    show X _ = X _
    congr 1
    funext a
    match a with
    | 0 => exact Fin.ext (by show c + 1 * (x 0).val = (c + (x 0).val) % 64; omega))
  unfold Inv at h' ⊢
  iintro ⟨H0, H1, HX, HO, HR⟩
  iapply (wp_load 𝒱₀ (thr d L) none Set.univ (m := xV) (Finset.subset_univ _)) $$ [HX]
  · iexact HX
  · iintro HX
    iapply h' $$ [H0 H1 HX HO HR]
    isplitl [H0]; · iexact H0
    isplitl [H1]; · iexact H1
    isplitl [HX]; · iexact HX
    isplitl [HO]; · iexact HO
    iexact HR

end

end Cert.Proof.Moco

end
-- ==== Proof.Task.lean ====
/-
  The whole task of the gather, from the fetch of its indices to its two results.
-/
module

public import proofs.«01_k».proof.Proof.Tile

@[expose] public section

noncomputable section

namespace Cert.Proof.Moco

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F] [Named F]

local notation "𝕄" => MT nD τ sig (HIx 1) (Elt F) ℕ UU ℕ

variable {d : Dev nD} {L : grid0.Coords} {E0 : Buf (Elt F) ((e0V).view.loc (thr d L))} {E1 : Buf (Elt F) ((e1V).view.loc (thr d L))}
  {q : PosShare TreeShare}
  {f0 G0 : Buf (Elt F) ((r0V).view.loc (thr d L))} {f1 G1 : Buf (Elt F) ((r1V).view.loc (thr d L))}
  {X : Buf (Elt F) ((xV).view.loc (thr d L))}
  {O : CellTallies nD τ sig (HIx 1)} {W : Waits sig (HIx 1)} {R : sProp (MT nD τ sig (HIx 1) (Elt F) ℕ UU ℕ)}

set_option maxRecDepth 65536 in
set_option maxHeartbeats 40000000 in
/-- The 64 row copies of each table, issued and waited for. -/
theorem copies {β : Type} {Q : β → sProp 𝕄} {g : (Σ' (v638 : BitVec 32), k0_chk64 v638) → Prog (TpuEff nD τ sig (Elt F) Λ₀ (thr d L).2) β}
    (hO : ∀ g, O g none = 0) (hX : ∀ n, (wd X n).toNat < 442368)
    (h0 : ∀ (t : Fin 64) hp, (rowM r0V t).view.read (Elt F) G0
      = ((e0V).slice (Rect.unit (s := S442368x64) ![(wd X t.val).toNat, 0] S1x64.size hp) (fun _ => rfl)).view.read (Elt F) E0)
    (h1 : ∀ (t : Fin 64) hp, (rowM r1V t).view.read (Elt F) G1
      = ((e1V).slice (Rect.unit (s := S442368x64) ![(wd X t.val).toNat, 0] S1x64.size hp) (fun _ => rfl)).view.read (Elt F) E1)
    {P P' : sProp 𝕄}
    (hfetch : ∀ k : PUnit → Prog (TpuEff nD τ sig (Elt F) Λ₀ (thr d L).2) β,
      (P' ⊢ wp frame (wpE (defs₀ (F := F)) 𝒱₀ (thr d L) none) Set.univ (k ⟨⟩) Q) →
      P ⊢ wp frame (wpE (defs₀ (F := F)) 𝒱₀ (thr d L) none) Set.univ
        (Prog.lift (.enqueueDma ((pV).slice (Rect.unit (s := S2048) (k0_off1 L) S64.size (k0_off1_inb L)) (fun _ => rfl))
          (.here xV) (.dma cc0_scoped0.sem) (View.wordExact_bits rfl) (Memref.isWhole_whole _).wordExact ⟨Or.inl rfl, trivial⟩) >>= k) Q)
    (hin : ∀ k : PUnit → Prog (TpuEff nD τ sig (Elt F) Λ₀ (thr d L).2) β,
      (Inv d L E0 E1 q f0 G0 f1 G1 X O W R 0 0 0 0 ⊢ wp frame (wpE (defs₀ (F := F)) 𝒱₀ (thr d L) none) Set.univ (k ⟨⟩) Q) →
      P' ⊢ wp frame (wpE (defs₀ (F := F)) 𝒱₀ (thr d L) none) Set.univ
        (Prog.lift (.waitDma2 cc0_scoped0.sem ((pV).slice (Rect.unit (s := S2048) (k0_off1 L) S64.size (k0_off1_inb L)) (fun _ => rfl)) xV
          (View.wordExact_bits rfl) (Memref.isWhole_whole _).wordExact) >>= k) Q)
    (hout : ∀ v, Inv d L E0 E1 q f0 G0 f1 G1 X O W R 64 64 63 63 ⊢ wp frame (wpE (defs₀ (F := F)) 𝒱₀ (thr d L) none) Set.univ (g v) Q) :
    P ⊢ wp frame (wpE (defs₀ (F := F)) 𝒱₀ (thr d L) none) Set.univ
      (k0_part51 L e0V (Memref.isWhole_whole _) e1V (Memref.isWhole_whole _) pV (Memref.isWhole_whole _) qV (Memref.isWhole_whole _)
        kV (Memref.isWhole_whole _) xV (Memref.isWhole_whole _) r0V (Memref.isWhole_whole _) r1V (Memref.isWhole_whole _)
        cc0_scratch3 cc0_scratch4 cc0_scoped0 cc0_scoped1 cc0_scoped2 >>= g) Q := by
  rw [k0_part51_eq_skeleton]; unfold k0_part51_skel
  refine step_assoc d L ?_
  rw [k0_part1_eq_skeleton]; unfold k0_part1_skel
  dsimp only
  refine step_assoc d L ?_
  refine step_assoc d L (hfetch _ ?_)
  refine step_assoc d L (hin _ ?_)
  repeat (first
    | (with_reducible refine step_assoc d L ?_)
    | (with_reducible refine step_pure d L ?_; dsimp only)
    | (with_reducible refine step_assume d L ?_ fun h' => ?_
       · first | exact ⟨inrow (hv _) (hX _), inrow (hv _) (hX _)⟩ | exact inrow (hv _) (hX _)
       dsimp only)
    | (with_reducible refine step_issue0 (F := F) ?_ ?_ ?_ ?_ h0 ?_
       on_goal 4 => rfl
       on_goal 3 => exact congrArg (fun w : BitVec 32 => (![w.toNat, 0] : Fin 2 → ℕ)) (hv _)
       on_goal 2 => decide
       on_goal 1 => decide)
    | (with_reducible refine step_issue1 (F := F) ?_ ?_ ?_ ?_ h1 ?_
       on_goal 4 => rfl
       on_goal 3 => exact congrArg (fun w : BitVec 32 => (![w.toNat, 0] : Fin 2 → ℕ)) (hv _)
       on_goal 2 => decide
       on_goal 1 => decide)
    | (with_reducible refine step_wait0 (F := F) hO ?_ ?_ ?_
       on_goal 2 => rfl
       on_goal 1 => decide)
    | (with_reducible refine step_wait1 (F := F) hO ?_ ?_ ?_
       on_goal 2 => rfl
       on_goal 1 => decide)
    | (with_reducible refine step_load (F := F) fun v hv => ?_
       dsimp only)
    | (rw [k0_part2_eq_skeleton]; unfold k0_part2_skel; dsimp only)
    | (rw [k0_part3_eq_skeleton]; unfold k0_part3_skel; dsimp only)
    | (rw [k0_part4_eq_skeleton]; unfold k0_part4_skel; dsimp only)
    | (rw [k0_part5_eq_skeleton]; unfold k0_part5_skel; dsimp only)
    | (rw [k0_part6_eq_skeleton]; unfold k0_part6_skel; dsimp only)
    | (rw [k0_part7_eq_skeleton]; unfold k0_part7_skel; dsimp only)
    | (rw [k0_part8_eq_skeleton]; unfold k0_part8_skel; dsimp only)
    | (rw [k0_part9_eq_skeleton]; unfold k0_part9_skel; dsimp only)
    | (rw [k0_part10_eq_skeleton]; unfold k0_part10_skel; dsimp only)
    | (rw [k0_part11_eq_skeleton]; unfold k0_part11_skel; dsimp only)
    | (rw [k0_part12_eq_skeleton]; unfold k0_part12_skel; dsimp only)
    | (rw [k0_part13_eq_skeleton]; unfold k0_part13_skel; dsimp only)
    | (rw [k0_part14_eq_skeleton]; unfold k0_part14_skel; dsimp only)
    | (rw [k0_part15_eq_skeleton]; unfold k0_part15_skel; dsimp only)
    | (rw [k0_part16_eq_skeleton]; unfold k0_part16_skel; dsimp only)
    | (rw [k0_part17_eq_skeleton]; unfold k0_part17_skel; dsimp only)
    | (rw [k0_part18_eq_skeleton]; unfold k0_part18_skel; dsimp only)
    | (rw [k0_part19_eq_skeleton]; unfold k0_part19_skel; dsimp only)
    | (rw [k0_part20_eq_skeleton]; unfold k0_part20_skel; dsimp only)
    | (rw [k0_part21_eq_skeleton]; unfold k0_part21_skel; dsimp only)
    | (rw [k0_part22_eq_skeleton]; unfold k0_part22_skel; dsimp only)
    | (rw [k0_part23_eq_skeleton]; unfold k0_part23_skel; dsimp only)
    | (rw [k0_part24_eq_skeleton]; unfold k0_part24_skel; dsimp only)
    | (rw [k0_part25_eq_skeleton]; unfold k0_part25_skel; dsimp only)
    | (rw [k0_part26_eq_skeleton]; unfold k0_part26_skel; dsimp only)
    | (rw [k0_part27_eq_skeleton]; unfold k0_part27_skel; dsimp only)
    | (rw [k0_part28_eq_skeleton]; unfold k0_part28_skel; dsimp only)
    | (rw [k0_part29_eq_skeleton]; unfold k0_part29_skel; dsimp only)
    | (rw [k0_part30_eq_skeleton]; unfold k0_part30_skel; dsimp only)
    | (rw [k0_part31_eq_skeleton]; unfold k0_part31_skel; dsimp only)
    | (rw [k0_part32_eq_skeleton]; unfold k0_part32_skel; dsimp only)
    | (rw [k0_part33_eq_skeleton]; unfold k0_part33_skel; dsimp only)
    | (rw [k0_part34_eq_skeleton]; unfold k0_part34_skel; dsimp only)
    | (rw [k0_part35_eq_skeleton]; unfold k0_part35_skel; dsimp only)
    | (rw [k0_part36_eq_skeleton]; unfold k0_part36_skel; dsimp only)
    | (rw [k0_part37_eq_skeleton]; unfold k0_part37_skel; dsimp only)
    | (rw [k0_part38_eq_skeleton]; unfold k0_part38_skel; dsimp only)
    | (rw [k0_part39_eq_skeleton]; unfold k0_part39_skel; dsimp only)
    | (rw [k0_part40_eq_skeleton]; unfold k0_part40_skel; dsimp only)
    | (rw [k0_part41_eq_skeleton]; unfold k0_part41_skel; dsimp only)
    | (rw [k0_part42_eq_skeleton]; unfold k0_part42_skel; dsimp only)
    | (rw [k0_part43_eq_skeleton]; unfold k0_part43_skel; dsimp only)
    | (rw [k0_part44_eq_skeleton]; unfold k0_part44_skel; dsimp only)
    | (rw [k0_part45_eq_skeleton]; unfold k0_part45_skel; dsimp only)
    | (rw [k0_part46_eq_skeleton]; unfold k0_part46_skel; dsimp only)
    | (rw [k0_part47_eq_skeleton]; unfold k0_part47_skel; dsimp only)
    | (rw [k0_part48_eq_skeleton]; unfold k0_part48_skel; dsimp only)
    | (rw [k0_part49_eq_skeleton]; unfold k0_part49_skel; dsimp only)
    | (rw [k0_part50_eq_skeleton]; unfold k0_part50_skel; dsimp only))
  exact hout _
end Cert.Proof.Moco

end
-- ==== Proof.Rows.lean ====
/-
  The start and the end of a table's 64 row copies, and a single copy with its wait.
-/
module

public import proofs.«01_k».proof.Proof.Tile

@[expose] public section

noncomputable section

namespace Cert.Proof.Moco

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F] [Named F]

local notation "𝕄" => MT nD τ sig (HIx 1) (Elt F) ℕ UU ℕ

/-! ## A task's buffer as its 64 rows -/

theorem div64 : 64 ∣ S64x64.size 0 := ⟨1, rfl⟩

theorem rowRect_eq (t : Fin 64) :
    Rect.unit (s := S64x64) ![t.val, 0] S1x64.size (rowInb t) = Rect.part (s := S64x64) (a₀ := 0) div64 t := by
  unfold Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem rowSet0 (t : Fin 64) : (rowM r0V t).view.set = (Rect.part (s := S64x64) (a₀ := 0) div64 t).set := by
  show ((View.whole (cc0_scratch1 : Ref sig .scVector)).slice (Rect.unit (s := S64x64) ![t.val, 0] S1x64.size (rowInb t))).set = _
  rw [View.set_slice, rowRect_eq]; exact Finset.map_refl
theorem rowSet1 (t : Fin 64) : (rowM r1V t).view.set = (Rect.part (s := S64x64) (a₀ := 0) div64 t).set := by
  show ((View.whole (cc0_scratch2 : Ref sig .scVector)).slice (Rect.unit (s := S64x64) ![t.val, 0] S1x64.size (rowInb t))).set = _
  rw [View.set_slice, rowRect_eq]; exact Finset.map_refl

variable (d : Dev nD) (L : grid0.Coords)

theorem rows0 (f : Buf (Elt F) ((r0V).view.loc (thr d L))) :
    ((r0V).view.loc (thr d L) ↦{fullShare} f : sProp 𝕄)
      = bigSep Finset.univ fun t : Fin 64 => (r0V).view.loc (thr d L) ↦[(rowM r0V t).view.set]{fullShare} f := by
  rw [← pointsTo_biUnion Finset.univ (ℓ := (r0V).view.loc (thr d L)) (fun t => (rowM r0V t).view.set)
    (fun i _ j _ h => by rw [rowSet0, rowSet0]; exact Rect.part_disjoint div64 h),
    show (Finset.univ : Finset (Fin 64)).biUnion (fun t => (rowM r0V t).view.set) = Finset.univ from
      (Finset.biUnion_congr rfl fun i _ => rowSet0 i).trans (Rect.biUnion_part div64)]

theorem rows1 (f : Buf (Elt F) ((r1V).view.loc (thr d L))) :
    ((r1V).view.loc (thr d L) ↦{fullShare} f : sProp 𝕄)
      = bigSep Finset.univ fun t : Fin 64 => (r1V).view.loc (thr d L) ↦[(rowM r1V t).view.set]{fullShare} f := by
  rw [← pointsTo_biUnion Finset.univ (ℓ := (r1V).view.loc (thr d L)) (fun t => (rowM r1V t).view.set)
    (fun i _ j _ h => by rw [rowSet1, rowSet1]; exact Rect.part_disjoint div64 h),
    show (Finset.univ : Finset (Fin 64)).biUnion (fun t => (rowM r1V t).view.set) = Finset.univ from
      (Finset.biUnion_congr rfl fun i _ => rowSet1 i).trans (Rect.biUnion_part div64)]

section

variable {tab : Memref sig .scVector .hbm S442368x64 .f32} {b : Memref sig .scVector .vmem S64x64 .f32} {sem : DmaSem sig}
  {E : Buf (Elt F) (tab.view.loc (thr d L))} {q : PosShare TreeShare} {f G : Buf (Elt F) (b.view.loc (thr d L))}

/-- Before the first copy: the buffer whole, a share of the table, the semaphore at zero. -/
theorem side_start
    (hrows : ∀ f, (b.view.loc (thr d L) ↦{fullShare} f : sProp 𝕄)
      = bigSep Finset.univ fun t : Fin 64 => b.view.loc (thr d L) ↦[(rowM b t).view.set]{fullShare} f) :
    iprop((b.view.loc (thr d L) ↦{fullShare} f) ∗ (tab.view.loc (thr d L) ↦{q} E) ∗ semVal (thr d L, .dma sem) 0)
      ⊢ |={Set.univ}=> Side d L tab b sem E q f G 0 0 := by
  unfold Side
  rw [hrows, ← bigSep_pending_zero, bigSep_sep']
  iintro ⟨Hb, Ht, Hv⟩
  imod (batch_alloc' countersEmb (thr d L) (default : HIx 1) rowN (SideD d L b G) (E := Set.univ)) $$ Hv with HB
  imodintro
  isplitl [HB]; · iexact HB
  ihave Hts := (pointsTo_toks_split q 64) $$ Ht
  icases Hts with ⟨-, Hts⟩
  isplitl [Hb]; · iexact Hb
  iexact Hts

/-- After the last wait: the buffer whole at the gathered rows, the semaphore at zero. -/
theorem side_end
    (hrows : ∀ f, (b.view.loc (thr d L) ↦{fullShare} f : sProp 𝕄)
      = bigSep Finset.univ fun t : Fin 64 => b.view.loc (thr d L) ↦[(rowM b t).view.set]{fullShare} f) (hN : 0 < rowN) :
    Side d L tab b sem E q f G 64 (64 * rowN)
      ⊢ |={Set.univ}=> iprop((b.view.loc (thr d L) ↦{fullShare} G) ∗ semVal (thr d L, .dma sem) 0) := by
  unfold Side
  rw [Nat.mul_comm, hrows]
  iintro ⟨HB, -⟩
  imod (batch_collect' countersEmb (thr d L) hN) $$ HB with ⟨HD, Hv⟩
  imodintro
  isplitl [HD]
  · unfold SideD; iexact HD
  iexact Hv

end

/-! ## One copy and its wait -/

variable (O : CellTallies nD τ sig (HIx 1)) (W : Waits sig (HIx 1))
variable {β : Type} {Q : β → sProp (MT nD τ sig (HIx 1) (Elt F) ℕ UU ℕ)} {k : PUnit → Prog (TpuEff nD τ sig (Elt F) Λ₀ (thr d L).2) β}

/-- What a single copy delivers: its destination written with what its source held, and the source back. -/
abbrev Del {sp sp' : Space} {s : Shape} {e : EltTy} (src : Memref sig .scVector sp s e) (dst : Memref sig .scVector sp' s e)
    (fs : Buf (Elt F) (src.view.loc (thr d L))) (fd : Buf (Elt F) (dst.view.loc (thr d L))) : sProp 𝕄 :=
  iprop((dst.view.loc (thr d L) ↦[dst.view.set]{fullShare} (dst.view.write (Elt F) fd (src.view.read (Elt F) fs) Finset.univ))
    ∗ (src.view.loc (thr d L) ↦[src.view.set]{fullShare} fs))

theorem step_send {sp sp' : Space} {s : Shape} {e : EltTy} {src : Memref sig .scVector sp s e} {dst : Memref sig .scVector sp' s e}
    {fs : Buf (Elt F) (src.view.loc (thr d L))} {fd : Buf (Elt F) (dst.view.loc (thr d L))} {R : sProp 𝕄}
    {sem : DmaSem sig} (hN : 0 < dst.view.dmaCredit) {h1 h2 h3}
    (h : iprop(Flight countersEmb (thr d L) (.dma sem) (default : HIx 1) dst.view.dmaCredit (Del d L src dst fs fd) ∗ R)
      ⊢ wp frame (wpE (defs₀ (F := F)) 𝒱₀ (thr d L) none) Set.univ (k ⟨⟩) Q) :
    iprop(((src.view.loc (thr d L) ↦[src.view.set]{fullShare} fs) ∗ (dst.view.loc (thr d L) ↦[dst.view.set]{fullShare} fd)
        ∗ semVal (thr d L, .dma sem) 0) ∗ R)
      ⊢ wp frame (wpE (defs₀ (F := F)) 𝒱₀ (thr d L) none) Set.univ
        (Prog.lift (.enqueueDma src (.here dst) (.dma sem) h1 h2 h3) >>= k) Q := by
  iintro ⟨H, HR⟩
  iapply (wp_dmaLocal countersEmb 𝒱₀ (thr d L) none (default : HIx 1) dst.view.dmaCredit rfl hN (Finset.Subset.refl _)) $$ [H]
  · iexact H
  · iintro HF
    iapply h $$ [HF HR]
    isplitl [HF]; · iexact HF
    iexact HR

theorem step_recv {sp sp' : Space} {s s' : Shape} {e e' : EltTy} {src : Memref sig .scVector sp s e} {dst : Memref sig .scVector sp' s' e'}
    {D R : sProp 𝕄} (hO : ∀ g, O g none = 0) {sem : DmaSem sig} {h1 h2}
    (h : iprop((D ∗ semVal (thr d L, .dma sem) 0) ∗ Ow d L O W ∗ R)
      ⊢ wp frame (wpE (defs₀ (F := F)) 𝒱₀ (thr d L) none) Set.univ (k ⟨⟩) Q) :
    iprop(Flight countersEmb (thr d L) (.dma sem) (default : HIx 1) dst.view.dmaCredit D ∗ Ow d L O W ∗ R)
      ⊢ wp frame (wpE (defs₀ (F := F)) 𝒱₀ (thr d L) none) Set.univ
        (Prog.lift (.waitDma2 sem src dst h1 h2) >>= k) Q := by
  unfold Ow at h ⊢
  iintro ⟨HF, ⟨#Hlv, ⟨%W', %hW, HO⟩⟩, HR⟩
  ihave Hm := ((K (F := F)).mayWait_none (thr := thr d L) (.dma sem) hO) $$ Hlv
  iapply (wp_waitLocalO countersEmb 𝒱₀ (thr d L) none (default : HIx 1) (dstw := dst) (srcw := src) (hsrc := h1) (hdst := h2) (W := W') rfl) $$ [HF HO Hm]
  · isplitl [HF]; · iexact HF
    isplitl [HO]; · iexact HO
    iexact Hm
  · iintro ⟨HD, Hv, HO⟩
    iapply h $$ [HD Hv HO HR]
    isplitl [HD Hv]
    · isplitl [HD] <;> iassumption
    isplitl [HO]
    · isplitr; · iexact Hlv
      iexists (insert (SemLoc.dma sem, (default : HIx 1)) W')
      isplitr
      · ipureintro; exact waits_insert hW
      · iexact HO
    iexact HR

end Cert.Proof.Moco

end
-- ==== Proof.Gather.lean ====
/-
  One whole task of the gather: from a 64-sample slice of the indices and the two tables to 64 rows of each result.
-/
module

public import proofs.«01_k».proof.Proof.Task
public import proofs.«01_k».proof.Proof.Rows

@[expose] public section

noncomputable section

namespace Cert.Proof.Moco

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F] [Named F]

local notation "𝕄" => MT nD τ sig (HIx 1) (Elt F) ℕ UU ℕ

variable (d : Dev nD) (L : grid0.Coords)

/-- The task's slice of the indices and of the two results. -/
abbrev pS : Memref sig .scVector .hbm S64 .i32 :=
  (pV).slice (Rect.unit (s := S2048) (k0_off1 L) S64.size (k0_off1_inb L)) (fun _ => rfl)
abbrev qS : Memref sig .scVector .hbm S64x64 .f32 :=
  (qV).slice (Rect.unit (s := S2048x64) (k0_off129 L) S64x64.size (k0_off129_inb L)) (fun _ => rfl)
abbrev kS : Memref sig .scVector .hbm S64x64 .f32 :=
  (kV).slice (Rect.unit (s := S2048x64) (k0_off129 L) S64x64.size (k0_off129_inb L)) (fun _ => rfl)

/-! ## The values -/

theorem base_lt (n : Fin 64) : base L + n.val < 2048 := by
  have h0 : (L 0).val < 2 := (L 0).isLt
  have h1 : (L 1).val < 16 := (L 1).isLt
  have := n.isLt
  show 128 * (L 1).val + 64 * (L 0).val + n.val < 2048
  omega

/-- The task's 64 rows of a result. -/
def blk {α : Type} (g : S2048x64.Idx → α) : S64x64.Idx → α :=
  fun j => g (fun | 0 => ⟨base L + (j 0).val, base_lt L (j 0)⟩ | 1 => j 1)

/-- The task's 64 sample indices. -/
def words (p : S2048.Idx → BitVec 32) : S64.Idx → BitVec 32 :=
  fun j => p (fun | 0 => ⟨base L + (j 0).val, base_lt L (j 0)⟩)

theorem fetched (fx : Buf (Elt F) ((xV).view.loc (thr d L))) (p : S2048.Idx → BitVec 32) :
    (xV).view.write (Elt F) fx ((pS L).view.read (Elt F) (show Buf (Elt F) ((pS L).view.loc (thr d L)) from p)) Finset.univ = words L p := by
  rw [View.write_whole_univ]
  funext j
  show p _ = p _
  congr 1
  funext a
  match a with
  | 0 => exact Fin.ext (by show k0_off1 L 0 + 1 * (j 0).val = base L + (j 0).val; rw [k0_off1_eq, Nat.one_mul]; rfl)

theorem fetchedPts (fx : Buf (Elt F) ((xV).view.loc (thr d L))) (p : S2048.Idx → BitVec 32) :
    ((xV).view.loc (thr d L) ↦[(xV).view.set]{fullShare} ((xV).view.write (Elt F) fx
        ((pS L).view.read (Elt F) (show Buf (Elt F) ((pS L).view.loc (thr d L)) from p)) Finset.univ) : sProp 𝕄)
      = ((xV).view.loc (thr d L) ↦{fullShare} (show Buf (Elt F) ((xV).view.loc (thr d L)) from words L p)) := by
  rw [fetched, show (xV).view.set = Finset.univ from View.set_whole _]

theorem words_lt {p : S2048.Idx → BitVec 32} (hp : ∀ j, (p j).toNat < 442368) (n : ℕ) : (wd (words L p) n).toNat < 442368 := hp _

theorem rows_read0 {p : S2048.Idx → BitVec 32} (hp : ∀ j, (p j).toNat < 442368) (T : S442368x64.Idx → Elt F .f32) (t : Fin 64)
    (hi : ∀ x, (![(wd (words L p) t.val).toNat, 0] : Fin 2 → ℕ) x + S1x64.size x ≤ S442368x64.size x) :
    (rowM r0V t).view.read (Elt F) (show Buf (Elt F) ((r0V).view.loc (thr d L)) from blk L (gath T p))
      = ((e0V).slice (Rect.unit (s := S442368x64) ![(wd (words L p) t.val).toNat, 0] S1x64.size hi) (fun _ => rfl)).view.read (Elt F)
          (show Buf (Elt F) ((e0V).view.loc (thr d L)) from T) := by
  funext x
  show T _ = T _
  have hx : (x 0).val = 0 := Nat.lt_one_iff.mp (x 0).isLt
  have e : wd (words L p) t.val = words L p (fun | 0 => t) := by
    show words L p _ = words L p _
    congr 1
    funext a
    match a with
    | 0 => exact Fin.ext (Nat.mod_eq_of_lt t.isLt)
  congr 1
  funext a
  match a with
  | 0 =>
    refine Fin.ext ((Nat.mod_eq_of_lt (hp _)).trans ?_)
    show (words L p (fun | 0 => ⟨t.val + 1 * (x 0).val, _⟩)).toNat = (wd (words L p) t.val).toNat + 1 * (x 0).val
    have ez : 1 * (x 0).val = 0 := by omega
    refine Eq.trans ?_ (congrArg (fun n => (wd (words L p) t.val).toNat + n) ez.symm)
    rw [e, Nat.add_zero]
    refine congrArg BitVec.toNat (congrArg (words L p) (funext fun a => ?_))
    match a with
    | 0 => exact Fin.ext (by show t.val + 1 * (x 0).val = t.val; omega)
  | 1 => rfl

theorem rows_read1 {p : S2048.Idx → BitVec 32} (hp : ∀ j, (p j).toNat < 442368) (T : S442368x64.Idx → Elt F .f32) (t : Fin 64)
    (hi : ∀ x, (![(wd (words L p) t.val).toNat, 0] : Fin 2 → ℕ) x + S1x64.size x ≤ S442368x64.size x) :
    (rowM r1V t).view.read (Elt F) (show Buf (Elt F) ((r1V).view.loc (thr d L)) from blk L (gath T p))
      = ((e1V).slice (Rect.unit (s := S442368x64) ![(wd (words L p) t.val).toNat, 0] S1x64.size hi) (fun _ => rfl)).view.read (Elt F)
          (show Buf (Elt F) ((e1V).view.loc (thr d L)) from T) :=
  rows_read0 d L hp T t hi

/-- A result's slice written with the task's rows of `g` is the slice at `g`. -/
theorem written0 (fq : Buf (Elt F) ((qS L).view.loc (thr d L))) (g : S2048x64.Idx → Elt F .f32) :
    ((qS L).view.loc (thr d L) ↦[(qS L).view.set]{fullShare} ((qS L).view.write (Elt F) fq
        ((r0V).view.read (Elt F) (show Buf (Elt F) ((r0V).view.loc (thr d L)) from blk L g)) Finset.univ) : sProp 𝕄)
      = ((qS L).view.loc (thr d L) ↦[(qS L).view.set]{fullShare} (show Buf (Elt F) ((qS L).view.loc (thr d L)) from g)) := by
  refine pointsTo_congr fun i hi => ?_
  obtain ⟨x, -, rfl⟩ := Finset.mem_map.mp hi
  rw [View.write_emb_of_mem _ _ (Finset.mem_univ x)]
  show g _ = g _
  congr 1
  funext a
  match a with
  | 0 => exact Fin.ext (by show base L + (x 0).val = k0_off129 L 0 + 1 * (x 0).val; rw [k0_off129_eq, Nat.one_mul]; rfl)
  | 1 => exact Fin.ext (by show (x 1).val = k0_off129 L 1 + 1 * (x 1).val; rw [k0_off129_eq, Nat.one_mul]; exact (Nat.zero_add _).symm)

theorem written1 (fk : Buf (Elt F) ((kS L).view.loc (thr d L))) (g : S2048x64.Idx → Elt F .f32) :
    ((kS L).view.loc (thr d L) ↦[(kS L).view.set]{fullShare} ((kS L).view.write (Elt F) fk
        ((r1V).view.read (Elt F) (show Buf (Elt F) ((r1V).view.loc (thr d L)) from blk L g)) Finset.univ) : sProp 𝕄)
      = ((kS L).view.loc (thr d L) ↦[(kS L).view.set]{fullShare} (show Buf (Elt F) ((kS L).view.loc (thr d L)) from g)) := by
  refine pointsTo_congr fun i hi => ?_
  obtain ⟨x, -, rfl⟩ := Finset.mem_map.mp hi
  rw [View.write_emb_of_mem _ _ (Finset.mem_univ x)]
  show g _ = g _
  congr 1
  funext a
  match a with
  | 0 => exact Fin.ext (by show base L + (x 0).val = k0_off129 L 0 + 1 * (x 0).val; rw [k0_off129_eq, Nat.one_mul]; rfl)
  | 1 => exact Fin.ext (by show (x 1).val = k0_off129 L 1 + 1 * (x 1).val; rw [k0_off129_eq, Nat.one_mul]; exact (Nat.zero_add _).symm)

/-! ## The task -/

theorem rowN_pos : 0 < rowN := View.dmaCredit_pos _ (by decide)

theorem credit_q : 0 < (qS L).view.dmaCredit := View.dmaCredit_pos _ (by decide)
theorem credit_k : 0 < (kS L).view.dmaCredit := View.dmaCredit_pos _ (by decide)

theorem set_xV : (xV).view.set = Finset.univ := View.set_whole _
theorem set_r0V : (r0V).view.set = Finset.univ := View.set_whole _
theorem set_r1V : (r1V).view.set = Finset.univ := View.set_whole _

variable (T0 T1 : S442368x64.Idx → Elt F .f32) (p : S2048.Idx → BitVec 32) (q : PosShare TreeShare)
  (O : CellTallies nD τ sig (HIx 1)) (W : Waits sig (HIx 1))

/-- The task's slice of the indices, as memory of the device. -/
abbrev pPts : sProp 𝕄 := (pS L).view.loc (thr d L) ↦[(pS L).view.set]{fullShare} (show Buf (Elt F) ((pS L).view.loc (thr d L)) from p)

/-- What a task does not touch before its write-outs. -/
def Rest (fq : Buf (Elt F) ((qS L).view.loc (thr d L))) (fk : Buf (Elt F) ((kS L).view.loc (thr d L))) : sProp 𝕄 :=
  iprop(((qS L).view.loc (thr d L) ↦[(qS L).view.set]{fullShare} fq) ∗ ((kS L).view.loc (thr d L) ↦[(kS L).view.set]{fullShare} fk)
    ∗ semVal (thr d L, .dma cc0_scoped1.sem) 0 ∗ semVal (thr d L, .dma cc0_scoped2.sem) 0)

/-- What the task leaves: the indices, the two results' rows gathered, its scratch and its semaphores. -/
def Left : sProp 𝕄 :=
  iprop((pPts d L p
      ∗ ((qS L).view.loc (thr d L) ↦[(qS L).view.set]{fullShare} (show Buf (Elt F) ((qS L).view.loc (thr d L)) from gath T0 p))
      ∗ ((kS L).view.loc (thr d L) ↦[(kS L).view.set]{fullShare} (show Buf (Elt F) ((kS L).view.loc (thr d L)) from gath T1 p)))
    ∗ ((∃ f, (xV).view.loc (thr d L) ↦{fullShare} f) ∗ (∃ f, (r0V).view.loc (thr d L) ↦{fullShare} f) ∗ (∃ f, (r1V).view.loc (thr d L) ↦{fullShare} f))
    ∗ (semVal (thr d L, .dma cc0_scratch3.sem) 0 ∗ semVal (thr d L, .dma cc0_scratch4.sem) 0 ∗ semVal (thr d L, .dma cc0_scoped0.sem) 0
      ∗ semVal (thr d L, .dma cc0_scoped1.sem) 0 ∗ semVal (thr d L, .dma cc0_scoped2.sem) 0)
    ∗ ∃ W', ⌜∀ p ∈ W', p ∈ W ∨ p.2 = none⌝ ∗ owes (thr d L) O W')

theorem ent_trans {A B C : sProp 𝕄} (h : A ⊢ B) (h' : B ⊢ C) : A ⊢ C := h.trans h'

set_option maxHeartbeats 4000000 in
theorem outs_run (hO : ∀ g, O g none = 0) {fq fk} {X : Buf (Elt F) ((xV).view.loc (thr d L))} {h1 h2 h3 h4 h5 h6 h7 h8 h9 h10} :
    iprop((((r0V).view.loc (thr d L) ↦[(r0V).view.set]{fullShare} (show Buf (Elt F) ((r0V).view.loc (thr d L)) from blk L (gath T0 p)))
        ∗ ((qS L).view.loc (thr d L) ↦[(qS L).view.set]{fullShare} fq) ∗ semVal (thr d L, .dma cc0_scoped1.sem) 0)
      ∗ Ow d L O W ∗ (semVal (thr d L, .dma cc0_scratch3.sem) 0 ∗ semVal (thr d L, .dma cc0_scratch4.sem) 0
        ∗ ((xV).view.loc (thr d L) ↦{fullShare} X) ∗ pPts d L p ∗ semVal (thr d L, .dma cc0_scoped0.sem) 0
        ∗ ((r1V).view.loc (thr d L) ↦[(r1V).view.set]{fullShare} (show Buf (Elt F) ((r1V).view.loc (thr d L)) from blk L (gath T1 p)))
        ∗ ((kS L).view.loc (thr d L) ↦[(kS L).view.set]{fullShare} fk) ∗ semVal (thr d L, .dma cc0_scoped2.sem) 0))
      ⊢ wp frame (wpE (defs₀ (F := F)) 𝒱₀ (thr d L) none) Set.univ
        (Prog.lift (.enqueueDma r0V (.here (qS L)) (.dma cc0_scoped1.sem) h1 h2 h3) >>= fun _ =>
          Prog.lift (.waitDma2 cc0_scoped1.sem r0V (qS L) h4 h5) >>= fun _ =>
          Prog.lift (.enqueueDma r1V (.here (kS L)) (.dma cc0_scoped2.sem) h6 h7 h8) >>= fun _ =>
          Prog.lift (.waitDma2 cc0_scoped2.sem r1V (kS L) h9 h10) >>= fun _ => (pure PUnit.unit : Prog (TpuEff nD τ sig (Elt F) Λ₀ (thr d L).2) PUnit))
        fun _ => Left d L T0 T1 p O W := by
  refine step_send d L (credit_q L) (step_recv d L O W hO (ent_trans ?_
    (step_send d L (src := r1V) (dst := kS L) (fd := fk) (fs := blk L (gath T1 p)) (sem := cc0_scoped2.sem) (credit_k L)
      (R := iprop(Ow d L O W ∗ (semVal (thr d L, .dma cc0_scratch3.sem) 0 ∗ semVal (thr d L, .dma cc0_scratch4.sem) 0
        ∗ ((xV).view.loc (thr d L) ↦{fullShare} X) ∗ pPts d L p ∗ semVal (thr d L, .dma cc0_scoped0.sem) 0
        ∗ ((r0V).view.loc (thr d L) ↦[(r0V).view.set]{fullShare} (show Buf (Elt F) ((r0V).view.loc (thr d L)) from blk L (gath T0 p)))
        ∗ ((qS L).view.loc (thr d L) ↦[(qS L).view.set]{fullShare} (show Buf (Elt F) ((qS L).view.loc (thr d L)) from gath T0 p))
        ∗ semVal (thr d L, .dma cc0_scoped1.sem) 0)))
      (step_recv d L O W hO ?_))))
  · iintro ⟨⟨⟨Hq, H0⟩, Hs1⟩, HO, ⟨Hc3, Hc4, HX, Hp, Hs0, H1, Hk, Hs2⟩⟩
    isplitl [H1 Hk Hs2]
    · isplitl [H1]; · iexact H1
      isplitl [Hk]; · iexact Hk
      iexact Hs2
    isplitl [HO]; · iexact HO
    isplitl [Hc3]; · iexact Hc3
    isplitl [Hc4]; · iexact Hc4
    isplitl [HX]; · iexact HX
    isplitl [Hp]; · iexact Hp
    isplitl [Hs0]; · iexact Hs0
    isplitl [H0]; · iexact H0
    isplitl [Hq]; · iapply (Entails.of_eq (written0 d L fq (gath T0 p))); iexact Hq
    iexact Hs1
  · unfold Ow Left Del
    rw [set_r0V, set_r1V]
    simp only [wp_pure]
    iintro ⟨⟨⟨Hk, H1⟩, Hs2⟩, ⟨-, HO⟩, ⟨Hc3, Hc4, HX, Hp, Hs0, H0, Hq, Hs1⟩⟩
    imodintro
    isplitl [Hp Hq Hk]
    · isplitl [Hp]; · iexact Hp
      isplitl [Hq]; · iexact Hq
      iapply (Entails.of_eq (written1 d L fk (gath T1 p))); iexact Hk
    isplitl [HX H0 H1]
    · isplitl [HX]; · iexists X; iexact HX
      isplitl [H0]; · iexists (blk L (gath T0 p)); iexact H0
      iexists (blk L (gath T1 p)); iexact H1
    isplitl [Hc3 Hc4 Hs0 Hs1 Hs2]
    · isplitl [Hc3]; · iexact Hc3
      isplitl [Hc4]; · iexact Hc4
      isplitl [Hs0]; · iexact Hs0
      isplitl [Hs1]; · iexact Hs1
      iexact Hs2
    iexact HO

/-- The write-outs, from both tables' copies waited for. -/
theorem outs (hO : ∀ g, O g none = 0) {f0 f1 fq fk} {X : Buf (Elt F) ((xV).view.loc (thr d L))} {h1 h2 h3 h4 h5 h6 h7 h8 h9 h10}
    {E0 E1} :
    Inv d L E0 E1 q f0 (blk L (gath T0 p)) f1 (blk L (gath T1 p)) X O W
        iprop((pPts d L p ∗ semVal (thr d L, .dma cc0_scoped0.sem) 0) ∗ Rest d L fq fk) 64 64 64 64
      ⊢ wp frame (wpE (defs₀ (F := F)) 𝒱₀ (thr d L) none) Set.univ
        (Prog.lift (.enqueueDma r0V (.here (qS L)) (.dma cc0_scoped1.sem) h1 h2 h3) >>= fun _ =>
          Prog.lift (.waitDma2 cc0_scoped1.sem r0V (qS L) h4 h5) >>= fun _ =>
          Prog.lift (.enqueueDma r1V (.here (kS L)) (.dma cc0_scoped2.sem) h6 h7 h8) >>= fun _ =>
          Prog.lift (.waitDma2 cc0_scoped2.sem r1V (kS L) h9 h10) >>= fun _ => (pure PUnit.unit : Prog (TpuEff nD τ sig (Elt F) Λ₀ (thr d L).2) PUnit))
        fun _ => Left d L T0 T1 p O W := by
  unfold Inv Rest
  iintro ⟨H0, H1, HX, HO, ⟨⟨Hp, Hs0⟩, ⟨Hq, Hk, Hs1, Hs2⟩⟩⟩
  imod (side_end d L (rows0 d L) rowN_pos) $$ H0 with ⟨H0, Hc3⟩
  imod (side_end d L (rows1 d L) rowN_pos) $$ H1 with ⟨H1, Hc4⟩
  iapply (outs_run d L T0 T1 p O W hO (fq := fq) (fk := fk) (X := X))
  rw [set_r0V, set_r1V]
  isplitl [H0 Hq Hs1]
  · isplitl [H0]; · iexact H0
    isplitl [Hq]; · iexact Hq
    iexact Hs1
  isplitl [HO]; · iexact HO
  isplitl [Hc3]; · iexact Hc3
  isplitl [Hc4]; · iexact Hc4
  isplitl [HX]; · iexact HX
  isplitl [Hp]; · iexact Hp
  isplitl [Hs0]; · iexact Hs0
  isplitl [H1]; · iexact H1
  isplitl [Hk]; · iexact Hk
  iexact Hs2

theorem fetch_credit : 0 < (xV).view.dmaCredit := View.dmaCredit_pos _ (by decide)

set_option maxRecDepth 65536 in
set_option maxHeartbeats 4000000 in
theorem task_run (hO : ∀ g, O g none = 0) (hp : ∀ j, (p j).toNat < 442368) {f0 f1 fx fq fk} :
    iprop((pPts d L p ∗ ((xV).view.loc (thr d L) ↦[(xV).view.set]{fullShare} fx) ∗ semVal (thr d L, .dma cc0_scoped0.sem) 0)
        ∗ Ow d L O W
        ∗ Side d L e0V r0V cc0_scratch3.sem T0 q f0 (blk L (gath T0 p)) 0 0
        ∗ Side d L e1V r1V cc0_scratch4.sem T1 q f1 (blk L (gath T1 p)) 0 0 ∗ Rest d L fq fk)
      ⊢ wp frame (wpE (defs₀ (F := F)) 𝒱₀ (thr d L) none) Set.univ
        (cc0_sc_gather L e0V (Memref.isWhole_whole _) e1V (Memref.isWhole_whole _) pV (Memref.isWhole_whole _) qV (Memref.isWhole_whole _)
          kV (Memref.isWhole_whole _) xV (Memref.isWhole_whole _) r0V (Memref.isWhole_whole _) r1V (Memref.isWhole_whole _)
          cc0_scratch3 cc0_scratch4 cc0_scoped0 cc0_scoped1 cc0_scoped2)
        fun _ => Left d L T0 T1 p O W := by
  rw [cc0_sc_gather_eq_skeleton]; unfold cc0_sc_gather_skel; dsimp only
  refine copies (d := d) (L := L) (E0 := T0) (E1 := T1) (q := q) (f0 := f0) (G0 := blk L (gath T0 p)) (f1 := f1) (G1 := blk L (gath T1 p))
    (X := words L p) (O := O) (W := W)
    (R := iprop((pPts d L p ∗ semVal (thr d L, .dma cc0_scoped0.sem) 0) ∗ Rest d L fq fk))
    hO (words_lt L hp) (fun t hi => rows_read0 d L hp T0 t hi) (fun t hi => rows_read1 d L hp T1 t hi)
    (fun k h => step_send d L fetch_credit h)
    (fun k h => step_recv d L O W hO (ent_trans ?_ h))
    (fun v => ?_)
  · unfold Inv
    rw [Nat.zero_mul]
    iintro ⟨⟨⟨HX, Hp⟩, Hs0⟩, HO, H0, H1, HR⟩
    isplitl [H0]; · iexact H0
    isplitl [H1]; · iexact H1
    isplitl [HX]; · iapply (Entails.of_eq (fetchedPts d L fx p)); iexact HX
    isplitl [HO]; · iexact HO
    isplitl [Hp Hs0]
    · isplitl [Hp]; · iexact Hp
      iexact Hs0
    iexact HR
  · with_reducible refine step_wait0 (F := F) hO ?_ ?_ ?_
    on_goal 2 => rfl
    on_goal 1 => decide
    with_reducible refine step_wait1 (F := F) hO ?_ ?_ ?_
    on_goal 2 => rfl
    on_goal 1 => decide
    exact outs d L T0 T1 p q O W hO

/-- The whole task. -/
theorem task (hO : ∀ g, O g none = 0) (hp : ∀ j, (p j).toNat < 442368) {f0 f1 fx fq fk} :
    iprop((pPts d L p ∗ ((xV).view.loc (thr d L) ↦{fullShare} fx) ∗ semVal (thr d L, .dma cc0_scoped0.sem) 0)
        ∗ Ow d L O W
        ∗ (((r0V).view.loc (thr d L) ↦{fullShare} f0)
            ∗ ((e0V).view.loc (thr d L) ↦{q} (show Buf (Elt F) ((e0V).view.loc (thr d L)) from T0)) ∗ semVal (thr d L, .dma cc0_scratch3.sem) 0)
        ∗ (((r1V).view.loc (thr d L) ↦{fullShare} f1)
            ∗ ((e1V).view.loc (thr d L) ↦{q} (show Buf (Elt F) ((e1V).view.loc (thr d L)) from T1)) ∗ semVal (thr d L, .dma cc0_scratch4.sem) 0)
        ∗ Rest d L fq fk)
      ⊢ wp frame (wpE (defs₀ (F := F)) 𝒱₀ (thr d L) none) Set.univ
        (cc0_sc_gather L e0V (Memref.isWhole_whole _) e1V (Memref.isWhole_whole _) pV (Memref.isWhole_whole _) qV (Memref.isWhole_whole _)
          kV (Memref.isWhole_whole _) xV (Memref.isWhole_whole _) r0V (Memref.isWhole_whole _) r1V (Memref.isWhole_whole _)
          cc0_scratch3 cc0_scratch4 cc0_scoped0 cc0_scoped1 cc0_scoped2)
        fun _ => Left d L T0 T1 p O W := by
  iintro ⟨Hx, HO, H0, H1, HR⟩
  imod (side_start d L (tab := e0V) (b := r0V) (sem := cc0_scratch3.sem) (E := T0) (q := q) (f := f0) (G := blk L (gath T0 p)) (rows0 d L)) $$ H0 with H0
  imod (side_start d L (tab := e1V) (b := r1V) (sem := cc0_scratch4.sem) (E := T1) (q := q) (f := f1) (G := blk L (gath T1 p)) (rows1 d L)) $$ H1 with H1
  iapply (task_run d L T0 T1 p q O W hO hp (f0 := f0) (f1 := f1) (fx := fx) (fq := fq) (fk := fk))
  rw [set_xV]
  isplitl [Hx]; · iexact Hx
  isplitl [HO]; · iexact HO
  isplitl [H0]; · iexact H0
  isplitl [H1]; · iexact H1
  iexact HR

end Cert.Proof.Moco

end
-- ==== Proof.Call.lean ====
/-
  The gather's call: what the handshakes carry to its 32 tasks and back, each task's obligation, and how the operands
  split over the tasks and the results join.
-/
module

public import proofs.«01_k».proof.Proof.Gather

@[expose] public section

noncomputable section

namespace Cert.Proof.Moco

open Cert.KernelIdeal Cert.KernelIdeal.Gen

open Idealize.ShloMosaic
open Idealize.ShloMosaic.SparseCore (S V)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type}

local notation "𝕄" => MT nD τ sig (HIx 1) (Elt F) ℕ UU ℕ

/-! ## The tasks and their pieces -/

/-- The number of core `c`'s task `s`: the tasks take the samples in the order of their numbers. -/
def tix (c : Fin 2) (s : Fin 16) : Fin 32 := ⟨2 * s.val + c.val, by have := c.isLt; have := s.isLt; omega⟩

/-- Cores and tasks, counted. -/
def tixE : Fin 2 × Fin 16 ≃ Fin 32 := (Equiv.prodComm _ _).trans finProdFinEquiv

theorem tixE_eq (c : Fin 2) (s : Fin 16) : tixE (c, s) = tix c s :=
  Fin.ext (by simp [tixE, tix, finProdFinEquiv]; omega)

theorem bigSep_tix (Φ : Fin 32 → sProp 𝕄) :
    bigSep Finset.univ Φ = bigSep Finset.univ fun c : Fin 2 => bigSep Finset.univ fun s : Fin 16 => Φ (tix c s) := by
  rw [bigSep_univ_equiv tixE, bigSep_univ_prod]
  exact bigSep_congr fun c _ => bigSep_congr fun s _ => by rw [tixE_eq]

theorem pdiv : 32 ∣ S2048.size 0 := ⟨64, rfl⟩
theorem odiv : 32 ∣ S2048x64.size 0 := ⟨64, rfl⟩
/-- Task `t`'s samples, and its rows of a result. -/
abbrev pSet (t : Fin 32) : Finset S2048.Idx := (Rect.part (s := S2048) (a₀ := 0) pdiv t).set
abbrev oSet (t : Fin 32) : Finset S2048x64.Idx := (Rect.part (s := S2048x64) (a₀ := 0) odiv t).set

/-- The number of the task at `L`. -/
def tL (L : grid0.Coords) : Fin 32 :=
  ⟨2 * (L 1).val + (L 0).val, by have h0 : (L 0).val < 2 := (L 0).isLt; have h1 : (L 1).val < 16 := (L 1).isLt; omega⟩

theorem set_pS (L : grid0.Coords) : (pS L).view.set = pSet (tL L) := by
  show ((View.whole (main_arg4_scv : Ref sig .scVector)).slice (Rect.unit (s := S2048) (k0_off1 L) S64.size (k0_off1_inb L))).set = _
  rw [View.set_slice, show Rect.unit (s := S2048) (k0_off1 L) S64.size (k0_off1_inb L) = Rect.part (s := S2048) (a₀ := 0) pdiv (tL L) by
    unfold Rect.part Rect.block
    congr 1 <;> funext a
    · rw [k0_off1_eq]
      match a with
      | 0 => simp [Shape.partIx, Shape.partSize, tL]; omega
    · match a with
      | 0 => simp [Shape.partSize]]
  exact Finset.map_refl

theorem rect_qS (L : grid0.Coords) :
    Rect.unit (s := S2048x64) (k0_off129 L) S64x64.size (k0_off129_inb L) = Rect.part (s := S2048x64) (a₀ := 0) odiv (tL L) := by
  unfold Rect.part Rect.block
  congr 1 <;> funext a
  · rw [k0_off129_eq]
    match a with
    | 0 => simp [Shape.partIx, Shape.partSize, tL]; omega
    | 1 => simp [Shape.partIx, Shape.partSize]
  · match a with
    | 0 => simp [Shape.partSize]
    | 1 => simp [Shape.partSize]

theorem set_qS (L : grid0.Coords) : (qS L).view.set = oSet (tL L) := by
  show ((View.whole (main_v4_0_scv : Ref sig .scVector)).slice (Rect.unit (s := S2048x64) (k0_off129 L) S64x64.size (k0_off129_inb L))).set = _
  rw [View.set_slice, rect_qS]; exact Finset.map_refl
theorem set_kS (L : grid0.Coords) : (kS L).view.set = oSet (tL L) := by
  show ((View.whole (main_v4_1_scv : Ref sig .scVector)).slice (Rect.unit (s := S2048x64) (k0_off129 L) S64x64.size (k0_off129_inb L))).set = _
  rw [View.set_slice, rect_qS]; exact Finset.map_refl

theorem pPts_split (d : Dev nD) (f : Buf (Elt F) (pLoc d)) :
    (pLoc d ↦{fullShare} f : sProp 𝕄) = bigSep Finset.univ fun t : Fin 32 => pLoc d ↦[pSet t]{fullShare} f := by
  rw [← pointsTo_biUnion Finset.univ (ℓ := pLoc d) pSet (fun i _ j _ h => Rect.part_disjoint pdiv h),
    show (Finset.univ : Finset (Fin 32)).biUnion pSet = Finset.univ from Rect.biUnion_part pdiv]
theorem qPts_split (d : Dev nD) (f : Buf (Elt F) (qLoc d)) :
    (qLoc d ↦{fullShare} f : sProp 𝕄) = bigSep Finset.univ fun t : Fin 32 => qLoc d ↦[oSet t]{fullShare} f := by
  rw [← pointsTo_biUnion Finset.univ (ℓ := qLoc d) oSet (fun i _ j _ h => Rect.part_disjoint odiv h),
    show (Finset.univ : Finset (Fin 32)).biUnion oSet = Finset.univ from Rect.biUnion_part odiv]
theorem kPts_split (d : Dev nD) (f : Buf (Elt F) (kLoc d)) :
    (kLoc d ↦{fullShare} f : sProp 𝕄) = bigSep Finset.univ fun t : Fin 32 => kLoc d ↦[oSet t]{fullShare} f := by
  rw [← pointsTo_biUnion Finset.univ (ℓ := kLoc d) oSet (fun i _ j _ h => Rect.part_disjoint odiv h),
    show (Finset.univ : Finset (Fin 32)).biUnion oSet = Finset.univ from Rect.biUnion_part odiv]

variable [FloatOps F] [Named F]

/-! ## What the handshakes carry -/

variable (m : (ℓ : Loc nD τ sig) → Buf (Elt F) ℓ)

/-! The tables `T0`, `T1` are what the call finds in its first two operands: the device's two embeddings, one row per point. -/

variable (T0 T1 : Dev nD → S442368x64.Idx → Elt F .f32)

/-- The sample indices of device `d`. -/
abbrev prm (d : Dev nD) : S2048.Idx → BitVec 32 := m (pLoc d)

/-- What the proof asks of the launch memory: every sample index is the number of a row of the tables. -/
def PreOK : Prop := ∀ (d : Dev nD) (j : S2048.Idx), (prm m d j).toNat < 442368

/-- Task `t` takes its samples, a share of each table, and its rows of the two results. -/
def goT (d : Dev nD) (t : Fin 32) : sProp 𝕄 :=
  iprop((pLoc d ↦[pSet t]{fullShare} prm m d)
    ∗ ((e0Loc d ↦{shareTok fullShare 32 t} T0 d) ∗ (e1Loc d ↦{shareTok fullShare 32 t} T1 d))
    ∗ ((qLoc d ↦[oSet t]{fullShare} m (qLoc d)) ∗ (kLoc d ↦[oSet t]{fullShare} m (kLoc d))))

/-- It brings back its samples and its rows of the results, gathered. -/
def tdT (d : Dev nD) (t : Fin 32) : sProp 𝕄 :=
  iprop((pLoc d ↦[pSet t]{fullShare} prm m d)
    ∗ ((qLoc d ↦[oSet t]{fullShare} gath (T0 d) (prm m d)) ∗ (kLoc d ↦[oSet t]{fullShare} gath (T1 d) (prm m d))))

instance (d : Dev nD) (t : Fin 32) : Storable (upEmb : UEmb _ 𝕄) (goT m T0 T1 d t) := by unfold goT; infer_instance
instance (d : Dev nD) (t : Fin 32) : Storable (upEmb : UEmb _ 𝕄) (tdT m T0 T1 d t) := by unfold tdT; infer_instance

/-- The call's payloads: each core takes what its tasks take and brings back what they bring back. -/
def P : (K (F := F)).Pay (nD := nD) (Val := Elt F) (Name := ℕ) (U := UU) where
  st := fun q d c => match q with
    | 0 => bigSep Finset.univ fun s : Fin 16 => goT m T0 T1 d (tix (Fin.cast nCore_zero c) s)
  dn := fun q d c => match q with
    | 0 => bigSep Finset.univ fun s : Fin 16 => tdT m T0 T1 d (tix (Fin.cast nCore_zero c) s)
  go := fun q d c i => match q with
    | 0 => goT m T0 T1 d (tix (Fin.cast nCore_zero c) (Fin.cast nSub_zero i))
  td := fun q d c i => match q with
    | 0 => tdT m T0 T1 d (tix (Fin.cast nCore_zero c) (Fin.cast nSub_zero i))
  x := fun _ _ => iprop(emp)

instance P_storable : (P (F := F) m T0 T1).IsStorable where
  st q d c := match q with
    | 0 => (inferInstance : BI.Storable (upEmb : UEmb _ 𝕄) (bigSep Finset.univ fun s : Fin 16 => goT m T0 T1 d (tix (Fin.cast nCore_zero c) s)))
  dn q d c := match q with
    | 0 => (inferInstance : BI.Storable (upEmb : UEmb _ 𝕄) (bigSep Finset.univ fun s : Fin 16 => tdT m T0 T1 d (tix (Fin.cast nCore_zero c) s)))
  go q d c i := match q with
    | 0 => (inferInstance : BI.Storable (upEmb : UEmb _ 𝕄) (goT m T0 T1 d (tix (Fin.cast nCore_zero c) (Fin.cast nSub_zero i))))
  td q d c i := match q with
    | 0 => (inferInstance : BI.Storable (upEmb : UEmb _ 𝕄) (tdT m T0 T1 d (tix (Fin.cast nCore_zero c) (Fin.cast nSub_zero i))))

/-! ## A task's scratch and semaphores among its subcore's own -/

variable (d : Dev nD) (L : grid0.Coords)

abbrev cell (d : Dev nD) (L : grid0.Coords) (s : DmaSem sig) : GSem nD τ sig := (thr d L, .dma s)

theorem mem_cell (s : DmaSem sig) (h : (SemLoc.dma s : SemLoc sig).isScoped .scVector = true) : cell d L s ∈ ownCells (thr d L) :=
  (mem_ownCells (g := cell d L s)).mpr ⟨rfl, h⟩

theorem cell_ne {s t : DmaSem sig} (h : (SemLoc.dma s : SemLoc sig) ≠ .dma t) : cell d L s ≠ cell d L t :=
  fun e => h (congrArg Prod.snd e)

theorem ownSems0_V :
    (ownSems0 (thr d L) : sProp 𝕄)
      = iprop(semVal (cell d L cc0_scratch3.sem) 0 ∗ semVal (cell d L cc0_scratch4.sem) 0 ∗ semVal (cell d L cc0_scoped0.sem) 0
          ∗ semVal (cell d L cc0_scoped1.sem) 0 ∗ semVal (cell d L cc0_scoped2.sem) 0
          ∗ bigSep ((((((ownCells (thr d L)).erase (cell d L cc0_scratch3.sem)).erase (cell d L cc0_scratch4.sem)).erase
              (cell d L cc0_scoped0.sem)).erase (cell d L cc0_scoped1.sem)).erase (cell d L cc0_scoped2.sem)) fun g => semVal g 0) := by
  unfold SparseCore.Cfg.ownSems0
  rw [SparseCore.bigSep_erase' (mem_cell d L cc0_scratch3.sem (by decide)),
    SparseCore.bigSep_erase' (Finset.mem_erase.mpr ⟨cell_ne d L (s := cc0_scratch4.sem) (t := cc0_scratch3.sem) (by decide), mem_cell d L cc0_scratch4.sem (by decide)⟩),
    SparseCore.bigSep_erase' (Finset.mem_erase.mpr ⟨cell_ne d L (s := cc0_scoped0.sem) (t := cc0_scratch4.sem) (by decide), Finset.mem_erase.mpr ⟨cell_ne d L (s := cc0_scoped0.sem) (t := cc0_scratch3.sem) (by decide), mem_cell d L cc0_scoped0.sem (by decide)⟩⟩),
    SparseCore.bigSep_erase' (Finset.mem_erase.mpr ⟨cell_ne d L (s := cc0_scoped1.sem) (t := cc0_scoped0.sem) (by decide), Finset.mem_erase.mpr ⟨cell_ne d L (s := cc0_scoped1.sem) (t := cc0_scratch4.sem) (by decide), Finset.mem_erase.mpr ⟨cell_ne d L (s := cc0_scoped1.sem) (t := cc0_scratch3.sem) (by decide), mem_cell d L cc0_scoped1.sem (by decide)⟩⟩⟩),
    SparseCore.bigSep_erase' (Finset.mem_erase.mpr ⟨cell_ne d L (s := cc0_scoped2.sem) (t := cc0_scoped1.sem) (by decide), Finset.mem_erase.mpr ⟨cell_ne d L (s := cc0_scoped2.sem) (t := cc0_scoped0.sem) (by decide), Finset.mem_erase.mpr ⟨cell_ne d L (s := cc0_scoped2.sem) (t := cc0_scratch4.sem) (by decide), Finset.mem_erase.mpr ⟨cell_ne d L (s := cc0_scoped2.sem) (t := cc0_scratch3.sem) (by decide), mem_cell d L cc0_scoped2.sem (by decide)⟩⟩⟩⟩)]

abbrev ownRef (L : grid0.Coords) (b : Ref sig .scVector) : DevRef τ sig := (Proc.scVector (cV L) (jV L)).devRef b

theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase (ownRef L cc0_scratch0)).erase (ownRef L cc0_scratch1)).erase (ownRef L cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ownRef L cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := ownRef L cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
        SparseCore.Cfg.mem_ownRefs_of_owner (p := Proc.scVector (cV L) (jV L)) (b := ownRef L cc0_scratch2) rfl⟩⟩)]

/-! ## The task's obligation -/

theorem pts_p (f : Buf (Elt F) (pLoc d)) :
    ((pS L).view.loc (thr d L) ↦[(pS L).view.set]{fullShare} f : sProp 𝕄) = pLoc d ↦[pSet (tL L)]{fullShare} f := by rw [set_pS]
theorem pts_q (f : Buf (Elt F) (qLoc d)) :
    ((qS L).view.loc (thr d L) ↦[(qS L).view.set]{fullShare} f : sProp 𝕄) = qLoc d ↦[oSet (tL L)]{fullShare} f := by rw [set_qS]
theorem pts_k (f : Buf (Elt F) (kLoc d)) :
    ((kS L).view.loc (thr d L) ↦[(kS L).view.set]{fullShare} f : sProp 𝕄) = kLoc d ↦[oSet (tL L)]{fullShare} f := by rw [set_kS]

set_option maxHeartbeats 4000000 in
/-- The task on the subcore at `L`, from what the handshake brings it. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goT m T0 T1 d (tL L)
        ∗ scopedBufs (thr d L) ∗ scopedSems0 (thr d L) ∗ owes (thr d L) O W)
      ⊢ wp frame (wpE (defs₀ (F := F)) 𝒱₀ (thr d L) none) Set.univ
          (cc0_sc_gather L e0V (Memref.isWhole_whole _) e1V (Memref.isWhole_whole _) pV (Memref.isWhole_whole _) qV (Memref.isWhole_whole _)
            kV (Memref.isWhole_whole _) xV (Memref.isWhole_whole _) r0V (Memref.isWhole_whole _) r1V (Memref.isWhole_whole _)
            cc0_scratch3 cc0_scratch4 cc0_scoped0 cc0_scoped1 cc0_scoped2)
          fun _ => iprop(tdT m T0 T1 d (tL L)
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold goT tdT
  iintro ⟨#Hlv, -, ⟨Hp, ⟨He0, He1⟩, ⟨Hq, Hk⟩⟩, ⟨⟨%fx, HX⟩, ⟨%f0, H0⟩, ⟨%f1, H1⟩, Hbufs⟩, ⟨Hc3, Hc4, Hs0, Hs1, Hs2, Hsems⟩, HO⟩
  iapply (wp_wand frame _ _ (Q := fun _ => Left d L (T0 d) (T1 d) (prm m d) O W)) $$ [Hp He0 He1 Hq Hk HX H0 H1 Hc3 Hc4 Hs0 Hs1 Hs2 HO]
  · iapply (task d L (T0 d) (T1 d) (prm m d) (shareTok fullShare 32 (tL L)) O W hO (hpre d) (f0 := f0) (f1 := f1) (fx := fx)
      (fq := m (qLoc d)) (fk := m (kLoc d)))
    unfold Ow Rest
    isplitl [Hp HX Hs0]
    · isplitl [Hp]; · iapply (Entails.of_eq (pts_p (F := F) d L _).symm); iexact Hp
      isplitl [HX]; · iexact HX
      iexact Hs0
    isplitl [HO]
    · isplitr; · iexact Hlv
      iexists W; isplitr
      · ipureintro; exact fun _ h => .inl h
      · iexact HO
    isplitl [He0 H0 Hc3]
    · isplitl [H0]; · iexact H0
      isplitl [He0]; · iexact He0
      iexact Hc3
    isplitl [He1 H1 Hc4]
    · isplitl [H1]; · iexact H1
      isplitl [He1]; · iexact He1
      iexact Hc4
    isplitl [Hq]; · iapply (Entails.of_eq (pts_q (F := F) d L _).symm); iexact Hq
    isplitl [Hk]; · iapply (Entails.of_eq (pts_k (F := F) d L _).symm); iexact Hk
    isplitl [Hs1]; · iexact Hs1
    iexact Hs2
  · unfold Left
    iintro %_ ⟨⟨Hp, Hq, Hk⟩, ⟨HX, H0, H1⟩, ⟨Hc3, Hc4, Hs0, Hs1, Hs2⟩, HO⟩
    isplitl [Hp Hq Hk]
    · isplitl [Hp]; · iapply (Entails.of_eq (pts_p (F := F) d L _)); iexact Hp
      isplitl [Hq]; · iapply (Entails.of_eq (pts_q (F := F) d L _)); iexact Hq
      iapply (Entails.of_eq (pts_k (F := F) d L _)); iexact Hk
    isplitl [HX H0 H1 Hbufs]
    · isplitl [HX]; · iexact HX
      isplitl [H0]; · iexact H0
      isplitl [H1]; · iexact H1
      iexact Hbufs
    isplitl [Hc3 Hc4 Hs0 Hs1 Hs2 Hsems]
    · isplitl [Hc3]; · iexact Hc3
      isplitl [Hc4]; · iexact Hc4
      isplitl [Hs0]; · iexact Hs0
      isplitl [Hs1]; · iexact Hs1
      isplitl [Hs2]; · iexact Hs2
      iexact Hsems
    iexact HO

theorem defs₀_vector (c : Fin τ.nSC) (s : Fin τ.nSub) :
    defs₀ (F := F) (.scVector c s) 0 ()
      = SparseCore.onTile hcore0 hsub0 (fun c s => cc0_sc_gather (coordsV c s)
          e0V (Memref.isWhole_whole _) e1V (Memref.isWhole_whole _) pV (Memref.isWhole_whole _) qV (Memref.isWhole_whole _)
          kV (Memref.isWhole_whole _) xV (Memref.isWhole_whole _) r0V (Memref.isWhole_whole _) r1V (Memref.isWhole_whole _)
          cc0_scratch3 cc0_scratch4 cc0_scoped0 cc0_scoped1 cc0_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 200000 in
theorem tileObl (hF : (K (F := F)).Facts) (hpre : PreOK m) : (K (F := F)).TileObl (D (F := F)) 𝒱 (P m T0 T1) v₀ 0 := by
  intro d c i O W hO _ _
  simp only [show (P m T0 T1).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  refine BI.Entails.trans (Q := iprop(levAts (K (F := F)).L (K (F := F)).lev ∗ emp ∗ goT m T0 T1 d (tL (coordsV ⟨_, hci.1⟩ ⟨_, hci.2⟩))
        ∗ scopedBufs (thr d (coordsV ⟨_, hci.1⟩ ⟨_, hci.2⟩)) ∗ scopedSems0 (thr d (coordsV ⟨_, hci.1⟩ ⟨_, hci.2⟩)) ∗ owes (thr d (coordsV ⟨_, hci.1⟩ ⟨_, hci.2⟩)) O W)) ?_ ?_
  · exact .refl _
  refine BI.Entails.trans (tile_body m T0 T1 d (coordsV ⟨_, hci.1⟩ ⟨_, hci.2⟩) hF hpre O W hO) ?_
  refine wp_mono frame _ _ fun _ => ?_
  refine BI.Entails.trans (obl_post (q := 0)) ?_
  exact .refl _

/-! ## The operands split over the tasks, the results joined -/

set_option maxRecDepth 16384 in
theorem vecSplit : (K (F := F)).VecSplit' (P m T0 T1) 0 := by
  intro d c
  show (bigSep Finset.univ fun s : Fin 16 => goT m T0 T1 d (tix (Fin.cast nCore_zero c) s)) ⊢ |={Set.univ}=> iprop(
      (bigSep Finset.univ fun i : Fin ((K (F := F)).nSub 0) => goT m T0 T1 d (tix (Fin.cast nCore_zero c) (Fin.cast nSub_zero i)))
      ∗ ((bigSep Finset.univ fun i : Fin ((K (F := F)).nSub 0) => tdT m T0 T1 d (tix (Fin.cast nCore_zero c) (Fin.cast nSub_zero i)))
          -∗ bigSep Finset.univ fun s : Fin 16 => tdT m T0 T1 d (tix (Fin.cast nCore_zero c) s)))
  iintro H; imodintro
  isplitl [H]; · iexact H
  iintro H; iexact H

/-- The call's operands, whole, are what its two cores take. -/
theorem st_of (d : Dev nD) :
    iprop((pLoc d ↦{fullShare} prm m d) ∗ (e0Loc d ↦{fullShare} T0 d) ∗ (e1Loc d ↦{fullShare} T1 d)
        ∗ (qLoc d ↦{fullShare} m (qLoc d)) ∗ (kLoc d ↦{fullShare} m (kLoc d)))
      ⊢ (bigSep Finset.univ fun c : Fin ((K (F := F)).nCore 0) => (P m T0 T1).st 0 d c : sProp 𝕄) := by
  rw [show (bigSep Finset.univ fun c : Fin ((K (F := F)).nCore 0) => (P m T0 T1).st 0 d c : sProp 𝕄)
      = bigSep Finset.univ fun t : Fin 32 => goT m T0 T1 d t from (bigSep_tix (goT m T0 T1 d)).symm]
  unfold goT
  rw [bigSep_sep', bigSep_sep', bigSep_sep', bigSep_sep', pPts_split, qPts_split, kPts_split]
  iintro ⟨Hp, He0, He1, Hq, Hk⟩
  ihave He0 := (pointsTo_toks_split fullShare 32) $$ He0
  ihave He1 := (pointsTo_toks_split fullShare 32) $$ He1
  icases He0 with ⟨-, He0⟩
  icases He1 with ⟨-, He1⟩
  isplitl [Hp]; · iexact Hp
  isplitl [He0 He1]
  · isplitl [He0]; · iexact He0
    iexact He1
  isplitl [Hq]; · iexact Hq
  iexact Hk

/-- What the two cores bring back is the indices and the two results, whole and gathered. -/
theorem dn_of (d : Dev nD) :
    (bigSep Finset.univ fun c : Fin ((K (F := F)).nCore 0) => (P m T0 T1).dn 0 d c : sProp 𝕄)
      ⊢ iprop((pLoc d ↦{fullShare} prm m d) ∗ (qLoc d ↦{fullShare} gath (T0 d) (prm m d)) ∗ (kLoc d ↦{fullShare} gath (T1 d) (prm m d))) := by
  rw [show (bigSep Finset.univ fun c : Fin ((K (F := F)).nCore 0) => (P m T0 T1).dn 0 d c : sProp 𝕄)
      = bigSep Finset.univ fun t : Fin 32 => tdT m T0 T1 d t from (bigSep_tix (tdT m T0 T1 d)).symm]
  unfold tdT
  rw [bigSep_sep', bigSep_sep', pPts_split, qPts_split, kPts_split]

end Cert.Proof.Moco

end
-- ==== Proof.Body.lean ====
module

public import proofs.«01_k».proof.Proof.Call
public import proofs.«01_k».proof.Proof.Gen.KernelIdeal.Skeleton
public import proofs.«01_k».proof.Proof.Gen.KernelIdeal.Points
public import proofs.«01_k».proof.Proof.Gen.KernelIdeal.Launch
public import Idealize.ShloMosaic.Lib.Tactic
public import Idealize.ShloMosaic.Lib.Pipeline.FrameBody
public import Idealize.ShloMosaic.Lib.Pipeline.Value
public import Idealize.ShloMosaic.Lib.WholeRead

@[expose] public section

noncomputable section

namespace Cert.Proof.Moco

open Cert.KernelIdeal Cert.KernelIdeal.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-- Memref `M`'s buffer on core `c`, held whole at `f`. -/
abbrev ptM (c : Dev nD) {sp : Space} {S : Shape} {e : EltTy} (M : Memref sig .tc sp S e) (f : Buf (Elt F) (M.view.loc (c : Thread nD τ))) : sProp 𝕄 :=
  M.view.loc (c : Thread nD τ) ↦{fullShare} f

/-- The test by which the body resets its result: the grid point is the first. -/
abbrev cond (i : grid1.Coords) : Prop := Scalar.cmpi .ne (Scalar.extui (Scalar.cmpi .eq (BitVec.ofNat 32 (i 0).val) 0#32) : BitVec 32) 0#32 = 1#1

/-! # The body of the loss kernel: what one grid point leaves in the result's buffer -/

theorem z2 : (![0, 0] : Fin 2 → Nat) = fun _ => 0 := funext fun a => by fin_cases a <;> rfl

/-- The queue's index at row `r` and column `c`. -/
abbrev rix (r : Fin 8192) (c : Fin 64) : S8192x64.Idx := fun a => match a with | ⟨0, _⟩ => r | ⟨1, _⟩ => c

/-- Rows `1024 j` to `1024 j + 1023` of the queue. -/
def chunk (x3 : Vec F S8192x64 .bf16) (j : Fin 8) : Vec F S1024x64 .bf16 :=
  fun i => x3 (rix ⟨1024 * j.val + (i 0).val, by have h : (i 0).val < 1024 := (i 0).isLt; omega⟩ (i 1))

/-- The row of losses (in base 2) the body computes from one block of the two gathered arrays and the whole queue. -/
def lossRow (x1 x2 : Vec F S1024x64 .f32) (x3 : Vec F S8192x64 .bf16) : Vec F S1x1024 .f32 :=
  k1_pay28 (k1_pay4 x1 x2) (k1_pay5 x1)
    (k1_pay17 (k1_pay5 x1) (chunk x3 0)) (k1_pay18 (k1_pay5 x1) (chunk x3 0))
    (k1_pay17 (k1_pay5 x1) (chunk x3 1)) (k1_pay18 (k1_pay5 x1) (chunk x3 1))
    (k1_pay17 (k1_pay5 x1) (chunk x3 2)) (k1_pay18 (k1_pay5 x1) (chunk x3 2))
    (k1_pay17 (k1_pay5 x1) (chunk x3 3)) (k1_pay18 (k1_pay5 x1) (chunk x3 3))
    (k1_pay17 (k1_pay5 x1) (chunk x3 4)) (k1_pay18 (k1_pay5 x1) (chunk x3 4))
    (k1_pay17 (k1_pay5 x1) (chunk x3 5)) (k1_pay18 (k1_pay5 x1) (chunk x3 5))
    (k1_pay17 (k1_pay5 x1) (chunk x3 6)) (k1_pay18 (k1_pay5 x1) (chunk x3 6)) (chunk x3 7)

/-- The load of the queue's rows from `1024 j` on reads chunk `j`. -/
theorem readChunk (a3 : Memref sig .tc .vmem S8192x64 .bf16) (h3 : a3.IsWhole) (x3 : Vec F S8192x64 .bf16) (j : Fin 8) (o : Nat) (ho : o = 1024 * j.val)
    (h : ∀ a, (![o, 0] : Fin 2 → Nat) a + S1024x64.size a ≤ S8192x64.size a) :
    (View.readAt (Elt F) a3.view (Rect.unit (s := S8192x64) ![o, 0] S1024x64.size h).toLoadRect (h3.unread x3)) = chunk x3 j := by
  subst ho
  funext i
  refine (h3.readAt_unread x3 _ i).trans (congrArg x3 (funext fun a => Fin.ext ?_))
  match a with
  | ⟨0, _⟩ => show 1024 * j.val + 1 * (i 0).val = 1024 * j.val + (i 0).val; omega
  | ⟨1, _⟩ => show 0 + 1 * (i 1).val = (i 1).val; omega

/-- The body run at a later point, with the contents it leaves in the result's buffer. -/
def runB (c : Dev nD) (i : grid1.Coords) (hc : ¬ cond i) (a1 : Memref sig .tc .vmem S1024x64 .f32) (h1 : a1.IsWhole) (a2 : Memref sig .tc .vmem S1024x64 .f32) (h2 : a2.IsWhole)
    (a3 : Memref sig .tc .vmem S8192x64 .bf16) (h3 : a3.IsWhole) (a4 : Memref sig .tc .vmem S1x1 .f32) (h4 : a4.IsWhole)
    (x1 x2 : Vec F S1024x64 .f32) (x3 : Vec F S8192x64 .bf16) (xo : Vec F S1x1 .f32) :
    { pay : Buf (Elt F) (a4.view.loc (c : Thread nD τ)) // ∀ (Q : PUnit → sProp 𝕄),
      iprop(ptM c a1 (h1.unread x1) ∗ ptM c a2 (h2.unread x2) ∗ ptM c a3 (h3.unread x3) ∗ ptM c a4 (h4.unread xo)
        ∗ (iprop(ptM c a1 (h1.unread x1) ∗ ptM c a2 (h2.unread x2) ∗ ptM c a3 (h3.unread x3) ∗ ptM c a4 pay) -∗ Q ⟨⟩))
        ⊢ wp frame (wpE (defs₀ (F := F)) 𝒱₀ (c : Thread nD τ) none) Set.univ (cc1__tc_body i a1 h1 a2 h2 a3 h3 a4 h4) Q } := by
  refine ⟨?_, fun Q => ?run⟩
  case run =>
    iintro ⟨H1, H2, H3, H4, Hk⟩
    simp only [cc1__tc_body_eq_skeleton]; unfold cc1__tc_body_skel
    sl_exec_parts!
    sl_step
    iapply Hk
    isplitl [H1]; · iexact H1
    isplitl [H2]; · iexact H2
    isplitl [H3]; · iexact H3
    iexact H4

/-- The body run at the first point, with the contents it leaves in the result's buffer. -/
def runA (c : Dev nD) (i : grid1.Coords) (hc : cond i) (a1 : Memref sig .tc .vmem S1024x64 .f32) (h1 : a1.IsWhole) (a2 : Memref sig .tc .vmem S1024x64 .f32) (h2 : a2.IsWhole)
    (a3 : Memref sig .tc .vmem S8192x64 .bf16) (h3 : a3.IsWhole) (a4 : Memref sig .tc .vmem S1x1 .f32) (h4 : a4.IsWhole)
    (x1 x2 : Vec F S1024x64 .f32) (x3 : Vec F S8192x64 .bf16) (xo : Vec F S1x1 .f32) :
    { pay : Buf (Elt F) (a4.view.loc (c : Thread nD τ)) // ∀ (Q : PUnit → sProp 𝕄),
      iprop(ptM c a1 (h1.unread x1) ∗ ptM c a2 (h2.unread x2) ∗ ptM c a3 (h3.unread x3) ∗ ptM c a4 (h4.unread xo)
        ∗ (iprop(ptM c a1 (h1.unread x1) ∗ ptM c a2 (h2.unread x2) ∗ ptM c a3 (h3.unread x3) ∗ ptM c a4 pay) -∗ Q ⟨⟩))
        ⊢ wp frame (wpE (defs₀ (F := F)) 𝒱₀ (c : Thread nD τ) none) Set.univ (cc1__tc_body i a1 h1 a2 h2 a3 h3 a4 h4) Q } := by
  refine ⟨?_, fun Q => ?run⟩
  case run =>
    iintro ⟨H1, H2, H3, H4, Hk⟩
    simp only [cc1__tc_body_eq_skeleton]; unfold cc1__tc_body_skel
    sl_exec_parts!
    sl_step
    iapply Hk
    isplitl [H1]; · iexact H1
    isplitl [H2]; · iexact H2
    isplitl [H3]; · iexact H3
    iexact H4

variable (c : Dev nD) (i : grid1.Coords) (a1 : Memref sig .tc .vmem S1024x64 .f32) (h1 : a1.IsWhole) (a2 : Memref sig .tc .vmem S1024x64 .f32) (h2 : a2.IsWhole)
    (a3 : Memref sig .tc .vmem S8192x64 .bf16) (h3 : a3.IsWhole) (a4 : Memref sig .tc .vmem S1x1 .f32) (h4 : a4.IsWhole)
    (x1 x2 : Vec F S1024x64 .f32) (x3 : Vec F S8192x64 .bf16) (xo : Vec F S1x1 .f32)

/-- At a later point the result's buffer is left at the old value plus the block's contribution. -/
theorem outB (hc : ¬ cond i) : (runB c i hc a1 h1 a2 h2 a3 h3 a4 h4 x1 x2 x3 xo).1 = h4.unread (k1_pay2 (lossRow x1 x2 x3) xo) := by
  refine h4.eq_unread ?_
  unfold runB
  dsimp only
  rw [View.read_writes_eq_canon _ _ _ (by intro y; refine ⟨_, List.mem_cons_self, ?_⟩; exact View.mem_set_unit_zero z2 inb_S1x1_S1x1_0_0 y)]
  sl_unfold_words
  rw [View.canon_unit_zero z2]
  rw [readChunk a3 h3 x3 0 0 rfl, readChunk a3 h3 x3 1 1024 rfl, readChunk a3 h3 x3 2 2048 rfl, readChunk a3 h3 x3 3 3072 rfl, readChunk a3 h3 x3 4 4096 rfl, readChunk a3 h3 x3 5 5120 rfl, readChunk a3 h3 x3 6 6144 rfl, readChunk a3 h3 x3 7 7168 rfl]
  simp only [View.readAt_eq_ld, h1.read_unread, h2.read_unread, h4.read_unread, View.ld_unit_zero (S := S1024x64) z2, View.ld_unit_zero (S := S1x1) z2]
  rfl

/-- At the first point it is left at zero plus the block's contribution. -/
theorem outA (hc : cond i) : (runA c i hc a1 h1 a2 h2 a3 h3 a4 h4 x1 x2 x3 xo).1 = h4.unread (k1_pay2 (lossRow x1 x2 x3) k1_pay1) := by
  refine h4.eq_unread ?_
  unfold runA
  dsimp only
  rw [View.read_writes_eq_canon _ _ _ (by intro y; refine ⟨_, List.mem_cons_self, ?_⟩; exact View.mem_set_unit_zero z2 inb_S1x1_S1x1_0_0 y)]
  sl_unfold_words
  rw [View.canon_cons_unit_zero (S := S1x1) z2, View.readCov_unit_zero (S := S1x1) _ z2]
  rw [readChunk a3 h3 x3 0 0 rfl, readChunk a3 h3 x3 1 1024 rfl, readChunk a3 h3 x3 2 2048 rfl, readChunk a3 h3 x3 3 3072 rfl, readChunk a3 h3 x3 4 4096 rfl, readChunk a3 h3 x3 5 5120 rfl, readChunk a3 h3 x3 6 6144 rfl, readChunk a3 h3 x3 7 7168 rfl]
  simp only [View.readAt_eq_ld, h1.read_unread, h2.read_unread, h4.read_unread, View.ld_unit_zero (S := S1024x64) z2, View.ld_unit_zero (S := S1x1) z2]
  rfl

/-- The body at a point after the first: the two input blocks and the queue are left as they were, and the result's
    buffer, found at `xo`, is left at `xo` plus the block's contribution. -/
theorem body_later (hc : ¬ cond i) (Q : PUnit → sProp 𝕄) :
    iprop(ptM c a1 (h1.unread x1) ∗ ptM c a2 (h2.unread x2) ∗ ptM c a3 (h3.unread x3) ∗ ptM c a4 (h4.unread xo)
        ∗ (iprop(ptM c a1 (h1.unread x1) ∗ ptM c a2 (h2.unread x2) ∗ ptM c a3 (h3.unread x3) ∗ ptM c a4 (h4.unread (k1_pay2 (lossRow x1 x2 x3) xo))) -∗ Q ⟨⟩))
      ⊢ wp frame (wpE (defs₀ (F := F)) 𝒱₀ (c : Thread nD τ) none) Set.univ (cc1__tc_body i a1 h1 a2 h2 a3 h3 a4 h4) Q := by
  rw [← outB c i a1 h1 a2 h2 a3 h3 a4 h4 x1 x2 x3 xo hc]
  exact (runB c i hc a1 h1 a2 h2 a3 h3 a4 h4 x1 x2 x3 xo).2 Q

/-- The body at the first point: as later, the result's buffer first reset to zero. -/
theorem body_first (hc : cond i) (Q : PUnit → sProp 𝕄) :
    iprop(ptM c a1 (h1.unread x1) ∗ ptM c a2 (h2.unread x2) ∗ ptM c a3 (h3.unread x3) ∗ ptM c a4 (h4.unread xo)
        ∗ (iprop(ptM c a1 (h1.unread x1) ∗ ptM c a2 (h2.unread x2) ∗ ptM c a3 (h3.unread x3) ∗ ptM c a4 (h4.unread (k1_pay2 (lossRow x1 x2 x3) k1_pay1))) -∗ Q ⟨⟩))
      ⊢ wp frame (wpE (defs₀ (F := F)) 𝒱₀ (c : Thread nD τ) none) Set.univ (cc1__tc_body i a1 h1 a2 h2 a3 h3 a4 h4) Q := by
  rw [← outA c i a1 h1 a2 h2 a3 h3 a4 h4 x1 x2 x3 xo hc]
  exact (runA c i hc a1 h1 a2 h2 a3 h3 a4 h4 x1 x2 x3 xo).2 Q

end Cert.Proof.Moco
end
-- ==== Proof.Region.lean ====
module

public import proofs.«01_k».proof.Proof.Body
public import Idealize.ShloMosaic.Lib.Pipeline.Regions
public import Idealize.ShloMosaic.Lib.Pipeline.Value

@[expose] public section

noncomputable section

namespace Cert.Proof.Moco

open Cert.KernelIdeal Cert.KernelIdeal.Gen

open Idealize.ShloMosaic Idealize.ShloMosaic.TcCoe
open Idealize.ShloMosaic.SparseCore.Cfg (HIx Pay)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-! # The loss kernel's pipelined region: its result array -/

/-- The region's entry contents: the gathered arrays `q` and `k`, the queue `w`, and what the result array holds. -/
structure Ent (F : FTy → Type) where
  q : Vec F S2048x64 .f32
  k : Vec F S2048x64 .f32
  w : Vec F S8192x64 .bf16
  o : Vec F S1x1 .f32

variable (E : Dev nD → Ent F) (O : Dev nD → CellTallies nD τ sig (HIx 1)) (b : ℕ)

/-- The four arrays at entry. -/
abbrev entA (c : Dev nD) : (w : Fin cfg1.W) → Buf (Elt F) ((cfg1.win w).arr.view.loc (c : Thread nD τ))
  | ⟨0, _⟩ => (E c).q
  | ⟨1, _⟩ => (E c).k
  | ⟨2, _⟩ => (E c).w
  | ⟨3, _⟩ => (E c).o

/-- Window `w`'s block of its array at point `t`. -/
abbrev blkAt (c : Dev nD) (w : Fin cfg1.W) (t : Fin cfg1.N) :
    ((cfg1.win w).xblock (cfg1.grid.coords t)).Idx → Elt F (cfg1.win w).elt :=
  ((cfg1.win w).blk t).view.read (Elt F) (entA E c w)

/-- The row of losses of point `t`. -/
abbrev rowAt (c : Dev nD) (t : Fin cfg1.N) : Vec F S1x1024 .f32 :=
  lossRow (blkAt E c 0 t) (blkAt E c 1 t) (blkAt E c 2 t)

/-- The result's buffer after the first point, and after the second. -/
abbrev acc0 (c : Dev nD) : Vec F S1x1 .f32 := k1_pay2 (rowAt E c t1_0) k1_pay1
abbrev acc1 (c : Dev nD) : Vec F S1x1 .f32 := k1_pay2 (rowAt E c t1_1) (acc0 E c)

/-- The region's proof data: the input windows keep their blocks, the result's window accumulates. -/
def dat1 (c : Dev nD) : Dat τ (Elt F) (HIx 1) ℕ UU ℕ cfg1 c where
  A := entA E c
  after w t := match w with
    | ⟨0, _⟩ => blkAt E c 0 t
    | ⟨1, _⟩ => blkAt E c 1 t
    | ⟨2, _⟩ => blkAt E c 2 t
    | ⟨3, _⟩ => if t.val = 0 then acc0 E c else acc1 E c
  Φ _ := iprop(emp)
  q _ := fullShare
  owed _ := O c
  recorded _ := {p | (K (F := F)).lev ((c : Thread nD τ), p.1) p.2 ≤ b}

abbrev adm : (p : Fin 1) → (pcfgs (F := F) p).Adm := fun p => (cfgs p).toPCfg_adm
def pdats : (p : Fin 1) → (c : Dev nD) → Dat τ (Elt F) (HIx 1) ℕ UU ℕ (Pipeline.pin (pcfgs (F := F)) adm p) c
  | 0 => dat1 E O b

theorem before_0 (c : Dev nD) (t : Fin cfg1.N) (d) : (dat1 E O b c).before 0 t d = blkAt E c 0 t :=
  (dat1 E O b c).before_in_eq_fetched 0 rfl (fun _ => rfl) (fun _ _ _ => rfl) (fun _ => rfl) t d
theorem before_1 (c : Dev nD) (t : Fin cfg1.N) (d) : (dat1 E O b c).before 1 t d = blkAt E c 1 t :=
  (dat1 E O b c).before_in_eq_fetched 1 rfl (fun _ => rfl) (fun _ _ _ => rfl) (fun _ => rfl) t d
theorem before_2 (c : Dev nD) (t : Fin cfg1.N) (d) : (dat1 E O b c).before 2 t d = blkAt E c 2 t :=
  (dat1 E O b c).before_in_eq_fetched 2 rfl (fun _ => rfl) (fun _ _ _ => rfl) (fun _ => rfl) t d
theorem before_3 (c : Dev nD) (d) : (dat1 E O b c).before 3 t1_1 d = acc0 E c :=
  (dat1 E O b c).before_out_kept 3 rfl t1_1 (by decide) (by
    rw [← Bool.not_eq_true, flush1_3]; decide) (fun _ => rfl) (fun _ _ => rfl) d

theorem cond_0 : cond (grid1.coords t1_0) := by decide
theorem cond_1 : ¬ cond (grid1.coords t1_1) := by decide

/-- Owning a whole memref at `X` is holding its buffer at the contents that read `X`. -/
theorem owns_to (c : Dev nD) {S : Shape} {e : EltTy} {M : Memref sig .tc .vmem S e} (h : M.IsWhole) (X : S.Idx → Elt F e) :
    (owns (Ix := HIx 1) (Name := ℕ) (U := UU) (Lvl := ℕ) (c : Thread nD τ) M fullShare X : sProp 𝕄) ⊢ ptM c M (h.unread X) := by
  unfold owns
  rw [h.set_eq_univ]
  iintro ⟨%f, %hf, H⟩
  obtain rfl := h.eq_unread hf
  iexact H

theorem to_owns (c : Dev nD) {S : Shape} {e : EltTy} {M : Memref sig .tc .vmem S e} (h : M.IsWhole) (X : S.Idx → Elt F e) :
    ptM c M (h.unread X) ⊢ (owns (Ix := HIx 1) (Name := ℕ) (U := UU) (Lvl := ℕ) (c : Thread nD τ) M fullShare X : sProp 𝕄) := by
  unfold owns
  rw [h.set_eq_univ]
  iintro H
  iexists _; isplitr; swap; (· iexact H); ipureintro; exact h.read_unread X

/-- The four staging buffers at point `t`, whole. -/
theorem w0 (t : Fin cfg1.N) : (st1_0 t).IsWhole := hstage1_0 ((cfg1.slots t 0).cast nbuf1_0)
theorem w1 (t : Fin cfg1.N) : (st1_1 t).IsWhole := hstage1_1 ((cfg1.slots t 1).cast nbuf1_1)
theorem w2 (t : Fin cfg1.N) : (st1_2 t).IsWhole := hstage1_2 ((cfg1.slots t 2).cast nbuf1_2)
theorem w3 (t : Fin cfg1.N) : (st1_3 t).IsWhole := hstage1_3 ((cfg1.slots t 3).cast nbuf1_3)

/-- What the pipeline hands the body of the three inputs at point `t`. -/
theorem in_0 (c : Dev nD) (t : Fin cfg1.N) (d) :
    (owns (Ix := HIx 1) (Name := ℕ) (U := UU) (Lvl := ℕ) (c : Thread nD τ) (st1_0 t) fullShare ((dat1 E O b c).before 0 t d) : sProp 𝕄)
      ⊢ ptM c (st1_0 t) ((w0 t).unread (blkAt E c 0 t)) := by
  rw [before_0]; exact owns_to c (w0 t) _
theorem in_1 (c : Dev nD) (t : Fin cfg1.N) (d) :
    (owns (Ix := HIx 1) (Name := ℕ) (U := UU) (Lvl := ℕ) (c : Thread nD τ) (st1_1 t) fullShare ((dat1 E O b c).before 1 t d) : sProp 𝕄)
      ⊢ ptM c (st1_1 t) ((w1 t).unread (blkAt E c 1 t)) := by
  rw [before_1]; exact owns_to c (w1 t) _
theorem in_2 (c : Dev nD) (t : Fin cfg1.N) (d) :
    (owns (Ix := HIx 1) (Name := ℕ) (U := UU) (Lvl := ℕ) (c : Thread nD τ) (st1_2 t) fullShare ((dat1 E O b c).before 2 t d) : sProp 𝕄)
      ⊢ ptM c (st1_2 t) ((w2 t).unread (blkAt E c 2 t)) := by
  rw [before_2]; exact owns_to c (w2 t) _

/-- What the result's buffer holds when the body runs at the second point: the first point's value. -/
theorem in_3 (c : Dev nD) (d) :
    (owns (Ix := HIx 1) (Name := ℕ) (U := UU) (Lvl := ℕ) (c : Thread nD τ) (st1_3 t1_1) fullShare ((dat1 E O b c).before 3 t1_1 d) : sProp 𝕄)
      ⊢ ptM c (st1_3 t1_1) ((w3 t1_1).unread (acc0 E c)) := by
  rw [before_3]; exact owns_to c (w3 t1_1) _

set_option maxRecDepth 20000 in
/-- The body's obligation to the pipeline, at both points. -/
theorem body_obligation (c : Dev nD) : BodyObligation (dat1 E O b c) (defs₀ (F := F)) 𝒱₀ none Set.univ := fun t => by
  rw [bigSep_W1, bigSep_W1]
  rw [show (dat1 E O b c).Φ t.castSucc = iprop(emp) from rfl, show (dat1 E O b c).Φ t.succ = iprop(emp) from rfl,
    show (dat1 E O b c).owesAt none t.succ = (dat1 E O b c).owesAt none t.castSucc from rfl]
  iintro ⟨-, HO, ⟨%d0, H0⟩, ⟨%d1, H1⟩, ⟨%d2, H2⟩, ⟨%d3, H3⟩⟩
  ihave H0 := (in_0 E O b c t d0) $$ H0
  ihave H1 := (in_1 E O b c t d1) $$ H1
  ihave H2 := (in_2 E O b c t d2) $$ H2
  rcases fin_N1 t with rfl | rfl
  · ihave H3 := (owns_to c (w3 t1_0) ((dat1 E O b c).before 3 t1_0 d3)) $$ H3
    iapply (body_first c (grid1.coords t1_0) (st1_0 t1_0) (w0 t1_0) (st1_1 t1_0) (w1 t1_0) (st1_2 t1_0) (w2 t1_0) (st1_3 t1_0) (w3 t1_0)
      (blkAt E c 0 t1_0) (blkAt E c 1 t1_0) (blkAt E c 2 t1_0) ((dat1 E O b c).before 3 t1_0 d3) cond_0 _)
    isplitl [H0]; · iexact H0
    isplitl [H1]; · iexact H1
    isplitl [H2]; · iexact H2
    isplitl [H3]; · iexact H3
    iintro ⟨H0, H1, H2, H3⟩
    isplitr; · iempintro
    isplitl [HO]; · iexact HO
    isplitl [H0]; · iapply (to_owns c (w0 t1_0) _); iexact H0
    isplitl [H1]; · iapply (to_owns c (w1 t1_0) _); iexact H1
    isplitl [H2]; · iapply (to_owns c (w2 t1_0) _); iexact H2
    iapply (to_owns c (w3 t1_0) (acc0 E c)); iexact H3
  · ihave H3 := (in_3 E O b c d3) $$ H3
    iapply (body_later c (grid1.coords t1_1) (st1_0 t1_1) (w0 t1_1) (st1_1 t1_1) (w1 t1_1) (st1_2 t1_1) (w2 t1_1) (st1_3 t1_1) (w3 t1_1)
      (blkAt E c 0 t1_1) (blkAt E c 1 t1_1) (blkAt E c 2 t1_1) (acc0 E c) cond_1 _)
    isplitl [H0]; · iexact H0
    isplitl [H1]; · iexact H1
    isplitl [H2]; · iexact H2
    isplitl [H3]; · iexact H3
    iintro ⟨H0, H1, H2, H3⟩
    isplitr; · iempintro
    isplitl [HO]; · iexact HO
    isplitl [H0]; · iapply (to_owns c (w0 t1_1) _); iexact H0
    isplitl [H1]; · iapply (to_owns c (w1 t1_1) _); iexact H1
    isplitl [H2]; · iapply (to_owns c (w2 t1_1) _); iexact H2
    iapply (to_owns c (w3 t1_1) (acc1 E c)); iexact H3

/-! ## What the arrays hold at exit -/

/-- The one write-back of the result, at the second point, writes what both points accumulated. -/
theorem flushed_eq (c : Dev nD) (t : Fin cfg1.N) (hf : (cfg1.win 3).flush t = true) :
    (dat1 E O b c).flushed 3 t = ((cfg1.win 3).blk t).view.read (Elt F) (acc1 E c) := by
  rcases fin_N1 t with rfl | rfl
  · exact absurd ((flush1_3 _).1 hf) (by decide)
  · have hz' : (fun a => win1_3.index t1_1 a * main_v6.ty.shape.size a) = fun _ => 0 := funext fun a => by fin_cases a <;> decide
    exact (Memref.read_access_unit_zero (Elt F) main_v6 hz' (fun a => by rw [congrFun hz' a]; simp) (acc1 E c)).symm

theorem final_o (c : Dev nD) : (dat1 E O b c).arrAt 3 cfg1.N = acc1 E c :=
  (dat1 E O b c).arrAt_eq_of_cover 3 (acc1 E c) (flushed_eq E O b c) fun i =>
    ⟨t1_1, (flush1_3 t1_1).mpr rfl, by
      show i ∈ ((View.whole main_v6).slice (win1_3.rect t1_1)).set
      rw [View.set_slice_whole, Rect.mem_set_unit]
      intro a
      have hi := (i a).isLt
      match a with
      | ⟨0, _⟩ => exact ⟨Nat.zero_le _, hi⟩
      | ⟨1, _⟩ => exact ⟨Nat.zero_le _, hi⟩⟩

end Cert.Proof.Moco
end
-- ==== Proof.Segment.lean ====
module

public import proofs.«01_k».proof.Proof.Region

@[expose] public section

noncomputable section

namespace Cert.Proof.Moco

open Cert.KernelIdeal Cert.KernelIdeal.Gen

open Idealize.ShloMosaic Idealize.ShloMosaic.TcCoe
open Idealize.ShloMosaic.SparseCore.Cfg (HIx Pay)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-! # The region as a segment of the program: entered with its four arrays, left with the result's accumulated -/

variable (E : Dev nD → Ent F) (O : Dev nD → CellTallies nD τ sig (HIx 1)) (b : ℕ)

/-- A buffer of device `c`, held whole. -/
abbrev pl (c : Dev nD) (r : Ref sig .tc) (f : r.ty.Contents (Elt F)) : sProp 𝕄 := ((c : Thread nD τ).loc r) ↦{fullShare} f

/-- The region's arrays at contents `Fa` are the four buffers held. -/
theorem arrays_eq (c : Dev nD) (Fa) : ((pdats E O b 0 c).arrays Fa : sProp 𝕄)
    = iprop(pl c main_v4_0 (Fa 0) ∗ pl c main_v4_1 (Fa 1) ∗ pl c main_v5 (Fa 2) ∗ pl c main_v6 (Fa 3)) := by
  rw [Pipeline.arrays_eq (Pipeline.pin (pcfgs (F := F)) adm) (pdats E O b) 0 c launch1.arr_whole ((pdats E O b 0 c).share_full fun _ => rfl) Fa, bigSep_W1]

theorem arrAt_0 (c : Dev nD) (n : ℕ) : (pdats E O b 0 c).arrAt 0 n = (E c).q := (dat1 E O b c).arrAt_in 0 rfl n
theorem arrAt_1 (c : Dev nD) (n : ℕ) : (pdats E O b 0 c).arrAt 1 n = (E c).k := (dat1 E O b c).arrAt_in 1 rfl n
theorem arrAt_2 (c : Dev nD) (n : ℕ) : (pdats E O b 0 c).arrAt 2 n = (E c).w := (dat1 E O b c).arrAt_in 2 rfl n
theorem arrAt_3 (c : Dev nD) : (pdats E O b 0 c).arrAt 3 (Pipeline.pin (pcfgs (F := F)) adm 0).N = acc1 E c := final_o E O b c

/-- What the core owes: the tallies `O c`, its recorded waits at levels up to `b`. -/
abbrev owing (c : Dev nD) : sProp 𝕄 :=
  iprop(∃ W, ⌜(K (F := F)).WBelow (c : Thread nD τ) W b⌝ ∗ owes (c : Thread nD τ) (O c) W)

/-- The region, entered with its four arrays at `E` and left with the result at `acc1`. -/
def seg (hO : ∀ c g, O c g none = 0) :
    Pipeline.RegionSeg (pcfgs (F := F)) adm (pdats E O b) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation E O b c).loose
  hwaits c := Pipeline.cellsWaits_intro _ (pdats E O b) none 0 c fun w s t => (K (F := F)).mayWait_none _ (hO c)
  pre c := iprop(pl c main_v4_0 (E c).q ∗ pl c main_v4_1 (E c).k ∗ pl c main_v5 (E c).w ∗ pl c main_v6 (E c).o ∗ owing O b c)
  post c := iprop(pl c main_v4_0 (E c).q ∗ pl c main_v4_1 (E c).k ∗ pl c main_v5 (E c).w ∗ pl c main_v6 (acc1 E c) ∗ owing O b c)
  X _ := iprop(emp)
  Y _ := iprop(emp)
  Z _ := iprop(emp)
  hentry c := by
    rw [Pipeline.ownSems0_none, arrays_eq]
    iintro ⟨⟨H0, H1, H2, H3, ⟨%W, %hW, HO⟩⟩, -, -⟩
    imodintro
    isplitl [H0 H1 H2 H3]
    · isplitl [H0]; · iexact H0
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by iintro -; iempintro
  hout c := by
    rw [Pipeline.ownSems0_none, scopedRest1_eq]
    iintro -; isplitr; · iempintro
    isplitr <;> iempintro
  hexit c := by
    rw [arrays_eq, arrAt_0, arrAt_1, arrAt_2, arrAt_3]
    iintro ⟨⟨H0, H1, H2, H3⟩, HO, -, -⟩
    imodintro
    isplitl [H0]; · iexact H0
    isplitl [H1]; · iexact H1
    isplitl [H2]; · iexact H2
    isplitl [H3]; · iexact H3
    unfold Pipeline.Dat.owesAt Pipeline.owesWithin
    icases HO with ⟨%W, %hW, HO⟩
    iexists W; isplitr; swap; · iexact HO
    ipureintro
    intro p hp
    rcases hW hp with h | ⟨w, s, rfl⟩
    · exact h
    · exact Nat.zero_le _

end Cert.Proof.Moco
end
-- ==== Proof.Run.lean ====
/-
  The kernel's run: its host operations, the gather's call and the loss's pipelined region, one after another, over any
  float values; what it leaves in its result.
-/
module

public import proofs.«01_k».proof.Proof.Call
public import proofs.«01_k».proof.Proof.Segment
public import Idealize.ShloMosaic.Lib.WordCmp

@[expose] public section

noncomputable section

namespace Cert.Proof.Moco

open Cert.KernelIdeal Cert.KernelIdeal.Gen

open Idealize.ShloMosaic Idealize.ShloMosaic.TcCoe
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The values -/

/-- A table as the gather reads it: the embedding's channels moved last, its samples flattened. -/
def tab (x : Vec F S4x64x48x48x48 .f32) : Vec F S442368x64 .f32 :=
  shapeCast S442368x64 (transpose S4x48x48x48x64 [0, 2, 3, 4, 1] x transposes_S4x64x48x48x48_S4x48x48x48x64_0_2_3_4_1)
    shapeCasts_S4x48x48x48x64_S442368x64

/-- The two tables of device `d`. -/
def T0 (d : Dev nD) : S442368x64.Idx → Elt F .f32 := tab (m ((d : Thread nD τ).loc main_arg0))
def T1 (d : Dev nD) : S442368x64.Idx → Elt F .f32 := tab (m ((d : Thread nD τ).loc main_arg1))

/-- What the region is entered with: the gathered rows, the queue rounded to bf16. -/
def Em (d : Dev nD) : Ent F where
  q := gath (T0 m d) (prm m d)
  k := gath (T1 m d) (prm m d)
  w := truncf .bf16 (m ((d : Thread nD τ).loc main_arg5)) bitsLt_bf16_f32
  o := m ((d : Thread nD τ).loc main_v6)

/-- The result. -/
def Rv (d : Dev nD) : Vec F S_ .f32 := shapeCast S_ (acc1 (Em m) d) shapeCasts_S1x1_S_

/-! ## The TensorCore's arrays, and the host operations over them -/

abbrev dr (r : Ref sig .tc) : DevRef τ sig := Proc.devRef .tc r

theorem unscoped_eq (d : Dev nD) (W : (b : Ref sig .tc) → Buf (Elt F) ((d.tc : Thread nD τ).loc b)) :
    (unscopedBufs d W : sProp 𝕄)
      = iprop(pl d main_arg0 (W main_arg0) ∗ pl d main_arg1 (W main_arg1) ∗ pl d main_arg2 (W main_arg2) ∗ pl d main_arg3 (W main_arg3)
          ∗ pl d main_arg4 (W main_arg4) ∗ pl d main_arg5 (W main_arg5) ∗ pl d main_v0 (W main_v0) ∗ pl d main_v1 (W main_v1)
          ∗ pl d main_v2 (W main_v2) ∗ pl d main_v3 (W main_v3) ∗ pl d main_v4_0 (W main_v4_0) ∗ pl d main_v4_1 (W main_v4_1)
          ∗ pl d main_v5 (W main_v5) ∗ pl d main_v6 (W main_v6) ∗ pl d main_v7 (W main_v7)) := by
  unfold unscopedBufs
  rw [show (Finset.univ.filter fun b : Ref sig .tc => ¬ b.isScoped) = {main_arg0, main_arg1, main_arg2, main_arg3, main_arg4, main_arg5,
      main_v0, main_v1, main_v2, main_v3, main_v4_0, main_v4_1, main_v5, main_v6, main_v7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- Two distinct arrays of the TensorCore, held at a valuation. -/
theorem held_two (d : Dev nD) (x y : Ref sig .tc) (h : dr x ≠ dr y) (W : Valuation τ sig (Elt F)) :
    (held (SparseCore.T d) {dr x, dr y} W : sProp 𝕄) = iprop(pl d x (W (dr x)) ∗ pl d y (W (dr y))) := by
  unfold held
  rw [SparseCore.bigSep_insert' (by rwa [Finset.mem_singleton]), bigSep_singleton]

/-- A host operation that reads `x` and writes `y`, run from the two held: `x` stays and `y` takes the operation's result. -/
theorem host_step (op : HloOp τ sig (Elt F)) (x y : Ref sig .tc) (d : Dev nD) (h : dr x ≠ dr y) (hb : op.bufs ⊆ {dr x, dr y})
    (hf : op.fresh = ∅) (hw : dr x ∉ op.writes) (fx : x.ty.Contents (Elt F)) (fy : y.ty.Contents (Elt F))
    (V : Valuation τ sig (Elt F)) (g : y.ty.Contents (Elt F))
    (hy' : ∀ W : Valuation τ sig (Elt F), W (dr x) = fx → op.result W (dr y) = g) (Φ : PUnit → sProp 𝕄) :
    iprop(boundary (SparseCore.T d) ∗ pl d x fx ∗ pl d y fy ∗ (iprop(boundary (SparseCore.T d) ∗ pl d x fx ∗ pl d y g) -∗ |={Set.univ}=> Φ ⟨⟩))
      ⊢ wp frame (wpE ((K (F := F)).defs (D (F := F))) 𝒱 (SparseCore.T d) none) Set.univ
          (hlo (p := (SparseCore.T d : Thread nD τ).2) rfl op (fun _ => .ret ⟨⟩)) Φ := by
  obtain ⟨W, hx, hy⟩ : ∃ W : Valuation τ sig (Elt F), W (dr x) = fx ∧ W (dr y) = fy :=
    ⟨Function.update (Function.update V (dr x) fx) (dr y) fy, (Function.update_of_ne h _ _).trans (Function.update_self _ _ _),
      Function.update_self _ _ _⟩
  have e1 := held_two d x y h W
  have e2 := held_two d x y h (op.result W)
  rw [hx, hy] at e1
  rw [op.result_of_not_mem W hw, hx, hy' W hx] at e2
  iintro ⟨Hb, Hx, Hy, Hk⟩
  iapply (wp_hlo_within 𝒱 (SparseCore.T d) none Set.univ (op := op) (S := {dr x, dr y}) hb (hf := hf) (V := W)) $$ [Hb Hx Hy]
  · isplitl [Hb]; · iexact Hb
    iapply (Entails.of_eq e1.symm)
    isplitl [Hx] <;> iassumption
  iintro ⟨Hb, H⟩
  ihave H' := (Entails.of_eq e2) $$ H
  rw [wp_ret]
  iapply Hk
  isplitl [Hb]; · iexact Hb
  iexact H'

/-- The same of a unary operation, and of a reshape. -/
theorem unary_step (x y : Ref sig .tc) (f : x.ty.Contents (Elt F) → y.ty.Contents (Elt F)) (hx hy) (d : Dev nD) (h : dr x ≠ dr y)
    (fx : x.ty.Contents (Elt F)) (fy : y.ty.Contents (Elt F)) (V : Valuation τ sig (Elt F)) (Φ : PUnit → sProp 𝕄) :
    iprop(boundary (SparseCore.T d) ∗ pl d x fx ∗ pl d y fy ∗ (iprop(boundary (SparseCore.T d) ∗ pl d x fx ∗ pl d y (f fx)) -∗ |={Set.univ}=> Φ ⟨⟩))
      ⊢ wp frame (wpE ((K (F := F)).defs (D (F := F))) 𝒱 (SparseCore.T d) none) Set.univ
          (hlo (p := (SparseCore.T d : Thread nD τ).2) rfl (StableHlo.unary x y f hx hy) (fun _ => .ret ⟨⟩)) Φ :=
  host_step _ x y d h (Finset.Subset.refl _) rfl (fun hm => h (Finset.mem_singleton.mp hm)) fx fy V (f fx)
    (fun W e => by rw [← e]; exact StableHlo.unary_result x y f hx hy W) Φ

theorem reshape_step (x y : Ref sig .tc) (he : x.ty.elt = y.ty.elt) (hn : x.ty.shape.ShapeCasts y.ty.shape) (hx hy) (d : Dev nD)
    (h : dr x ≠ dr y) (fx : x.ty.Contents (Elt F)) (fy : y.ty.Contents (Elt F)) (V : Valuation τ sig (Elt F)) (Φ : PUnit → sProp 𝕄) :
    iprop(boundary (SparseCore.T d) ∗ pl d x fx ∗ pl d y fy
        ∗ (iprop(boundary (SparseCore.T d) ∗ pl d x fx ∗ pl d y (fun i => he ▸ shapeCast y.ty.shape fx hn i)) -∗ |={Set.univ}=> Φ ⟨⟩))
      ⊢ wp frame (wpE ((K (F := F)).defs (D (F := F))) 𝒱 (SparseCore.T d) none) Set.univ
          (hlo (p := (SparseCore.T d : Thread nD τ).2) rfl (StableHlo.reshape x y he hn hx hy) (fun _ => .ret ⟨⟩)) Φ :=
  host_step _ x y d h (Finset.Subset.refl _) rfl (fun hm => h (Finset.mem_singleton.mp hm)) fx fy V _
    (fun W e => by rw [← e]; exact StableHlo.reshape_result x y he hn hx hy W) Φ

/-! ## The launch's ghost state -/

/-- The launch's rounds for the handshakes and for the region's staging cells; no transfers counted. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- Device `d`'s share of the staging cells' state. -/
def G (d : Dev nD) : sProp 𝕄 :=
  iprop(Pipeline.cellsGhost (Pipeline.pin (pcfgs (F := F)) adm) EP 0 d ∗ Pipeline.toksInit (Pipeline.pin (pcfgs (F := F)) adm) EP 0 d)

theorem bigSep_no {I : Type} (s : Finset I) : (bigSep s fun _ => iprop(emp)) = (iprop(emp) : sProp 𝕄) := bigSep_emp_const s

/-- The one region's summand on every device. -/
theorem pick (Φ : Fin 1 → Dev nD → sProp 𝕄) :
    (bigSep Finset.univ fun c : Dev nD => bigSep Finset.univ fun p => Φ p c) ⊢ bigSep Finset.univ fun c : Dev nD => Φ 0 c :=
  bigSep_mono fun _ _ => BI.bigSep_elim (Finset.mem_univ (0 : Fin 1))

theorem ownU_three (a : UH) (b : UP) :
    (ownU ((a, (b, 1)) : UU) : sProp 𝕄) ⊢ iprop(BI.own (EH a) ∗ BI.own (EP b)) :=
  (ownU_pair (A := UH) (B := UP × Counters) a (b, 1)).trans (sep_mono_right .rfl)

theorem hu₀ : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P m (T0 m) (T1 m)).x q thr) := by
  unfold u₀
  iintro Hu
  ihave H := (ownU_three _ _) $$ Hu
  icases H with ⟨HH, HP⟩
  imod (Pipeline.fund_ghost (Pipeline.pin (pcfgs (F := F)) adm) EP cellOf_inj) $$ HP with ⟨Hg, Ht⟩
  imodintro
  isplitl [HH]; · iexact HH
  isplitl [Hg Ht]
  · unfold G
    rw [bigSep_sep']
    isplitl [Hg]
    · iapply (pick fun p c => Pipeline.cellsGhost (Pipeline.pin (pcfgs (F := F)) adm) EP p c); iexact Hg
    · iapply (pick fun p c => Pipeline.toksInit (Pipeline.pin (pcfgs (F := F)) adm) EP p c); iexact Ht
  · show iprop(emp) ⊢ bigSep Finset.univ fun thr : Thread nD τ => bigSep Finset.univ fun q : Fin 1 => iprop(emp)
    simp only [bigSep_no]
    exact .rfl

/-! ## @main on the TensorCore -/

theorem Otc_one (d : Dev nD) : (K (F := F)).Otc d 1 = 0 := by
  unfold SparseCore.Cfg.Otc
  rw [Fin.sum_univ_one]; exact if_neg (by decide)

/-- The TensorCore's handshake state after the call, beside what the core owes. -/
theorem tcSt_one (d : Dev nD) : ∃ (bb : ℕ) (R : sProp 𝕄),
    (K (F := F)).tcSt EH d 1 = iprop(owing (fun c => (K (F := F)).Otc c 1) bb d ∗ R) := ⟨_, _, rfl⟩

theorem seg_pre (E : Dev nD → Ent F) (O : Dev nD → CellTallies nD τ sig (HIx 1)) (b : ℕ) (hO : ∀ c g, O c g none = 0) (c : Dev nD) :
    (seg E O b hO).pre c = iprop(pl c main_v4_0 (E c).q ∗ pl c main_v4_1 (E c).k ∗ pl c main_v5 (E c).w ∗ pl c main_v6 (E c).o ∗ owing O b c) := rfl
theorem seg_post (E : Dev nD → Ent F) (O : Dev nD → CellTallies nD τ sig (HIx 1)) (b : ℕ) (hO : ∀ c g, O c g none = 0) (c : Dev nD) :
    (seg E O b hO).post c = iprop(pl c main_v4_0 (E c).q ∗ pl c main_v4_1 (E c).k ∗ pl c main_v5 (E c).w ∗ pl c main_v6 (acc1 E c) ∗ owing O b c) := rfl

/-- The region, from its ghost state, its arrays and what the core owes, on one device. -/
theorem region_wp (E : Dev nD → Ent F) (O : Dev nD → CellTallies nD τ sig (HIx 1)) (b : ℕ) (hO : ∀ c g, O c g none = 0) (d : Dev nD)
    (Φ : PUnit → sProp 𝕄) :
    iprop((iprop(boundary (SparseCore.T d) ∗ pl d main_v4_0 (E d).q ∗ pl d main_v4_1 (E d).k ∗ pl d main_v5 (E d).w ∗ pl d main_v6 (acc1 E d) ∗ owing O b d)
          -∗ |={Set.univ}=> Φ ⟨⟩)
        ∗ boundary (SparseCore.T d) ∗ iprop(pl d main_v4_0 (E d).q ∗ pl d main_v4_1 (E d).k ∗ pl d main_v5 (E d).w ∗ pl d main_v6 (E d).o ∗ owing O b d)
        ∗ levAts (K (F := F)).L (K (F := F)).lev ∗ G d)
      ⊢ wp frame (wpE (D (F := F)) 𝒱 (SparseCore.T d) none) Set.univ (.op (.customCall (Pipeline.entry 0) ()) fun u => .ret u) Φ := by
  have hw := Pipeline.RegionSeg.wp (pcfgs (F := F)) adm (pdats E O b) none cellOf_inj EP defs₀ 𝒱₀
    (K (F := F)).L (K (F := F)).lev (seg E O b hO) d none (fun _ h => nomatch h) (fun u => .ret u) Φ
  rw [seg_pre, seg_post, wp_ret] at hw
  exact hw

/-- The region's entry, as @main makes it, is the entry of the pipeline's own program, lifted. -/
theorem entry_lift (d : Dev nD) :
    (Prog.lift (.customCall (SparseCore.inner (Pipeline.entry 0)) ()) : Prog (TpuEff nD τ sig (Elt F) (SparseCore.Sig (ΛP (F := F)) 1) (SparseCore.T d : Thread nD τ).2) PUnit)
      = SparseCore.liftProg (nD := nD) (sig := sig) (Val := Elt F) (Λ := ΛP (F := F)) (Q := 1) (pr := (SparseCore.T d : Thread nD τ).2)
          (.op (.customCall (Pipeline.entry 0) ()) fun u => .ret u) := by
  rw [SparseCore.liftProg_op]
  rfl

/-- The loss's region, entered with its four arrays and the core's handshake state. -/
theorem region_step (E : Dev nD → Ent F) (d : Dev nD) (Φ : PUnit → sProp 𝕄) :
    iprop(boundary (SparseCore.T d) ∗ (pl d main_v4_0 (E d).q ∗ pl d main_v4_1 (E d).k ∗ pl d main_v5 (E d).w ∗ pl d main_v6 (E d).o)
        ∗ (K (F := F)).tcSt EH d 1 ∗ levAts (K (F := F)).L (K (F := F)).lev ∗ G d
        ∗ (iprop(boundary (SparseCore.T d) ∗ pl d main_v6 (acc1 E d) ∗ (K (F := F)).tcSt EH d 1) -∗ |={Set.univ}=> Φ ⟨⟩))
      ⊢ wp frame (wpE ((K (F := F)).defs (D (F := F))) 𝒱 (SparseCore.T d) none) Set.univ
          (Prog.lift (.customCall (SparseCore.inner (Pipeline.entry 0)) ())) Φ := by
  obtain ⟨bb, R, e⟩ := tcSt_one (F := F) d
  rw [e]
  have hO : ∀ (c : Dev nD) (g), (fun c : Dev nD => (K (F := F)).Otc c 1) c g none = 0 := fun c g => by show (K (F := F)).Otc c 1 g none = 0; rw [Otc_one]; rfl
  generalize (fun c : Dev nD => (K (F := F)).Otc c 1) = O at hO ⊢
  rw [entry_lift]
  refine BIBase.Entails.trans ?_ ((K (F := F)).wp_liftProg (D (F := F)) 𝒱 (SparseCore.T d) Set.univ none (.op (.customCall (Pipeline.entry 0) ()) fun u => .ret u) Φ)
  refine BIBase.Entails.trans ?_ (region_wp E O bb hO d Φ)
  iintro ⟨Hb, ⟨H0, H1, H2, H3⟩, ⟨HO, HR⟩, Hlv, HG, Hk⟩
  isplitl [Hk HR]
  · iintro ⟨Hb, -, -, -, H3, HO⟩
    iapply Hk
    isplitl [Hb]; · iexact Hb
    isplitl [H3]; · iexact H3
    isplitl [HO] <;> iassumption
  isplitl [Hb]; · iexact Hb
  isplitl [H0 H1 H2 H3 HO]
  · isplitl [H0]; · iexact H0
    isplitl [H1]; · iexact H1
    isplitl [H2]; · iexact H2
    isplitl [H3]; · iexact H3
    iexact HO
  isplitl [Hlv] <;> iassumption

abbrev argPts (d : Dev nD) (r : Ref sig .tc) : sProp 𝕄 := pl d r (m ((d : Thread nD τ).loc r))

/-- What @main leaves the claims: the arguments unchanged, the result. -/
abbrev FIN (d : Dev nD) : sProp 𝕄 :=
  iprop(argPts m d main_arg0 ∗ argPts m d main_arg1 ∗ argPts m d main_arg2 ∗ argPts m d main_arg3 ∗ argPts m d main_arg4
    ∗ argPts m d main_arg5 ∗ pl d main_v7 (Rv m d))

theorem hmain (κ : GSem nD τ sig → ℕ) (d : Dev nD) :
    iprop((K (F := F)).ctx EH (P m (T0 m) (T1 m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_eq]
  simp only [main, wp_bind, wp_pure]
  iintro ⟨#Hctx, Hst, ⟨Hb, ⟨A0, A1, A2, A3, A4, A5, V0, V1, V2, V3, V40, V41, V5, V6, V7⟩, Hts, -⟩, HG⟩
  iapply (unary_step main_arg0 main_v0 _ _ _ d (by decide) (m ((d : Thread nD τ).loc main_arg0)) (m ((d : Thread nD τ).loc main_v0)) (fun b => m (d, b)))
  isplitl [Hb]; · iexact Hb
  isplitl [A0]; · iexact A0
  isplitl [V0]; · iexact V0
  iintro ⟨Hb, A0, V0⟩
  imodintro
  iapply (reshape_step main_v0 main_v1 rfl shapeCasts_S4x48x48x48x64_S442368x64 _ _ d (by decide) _ (m ((d : Thread nD τ).loc main_v1)) (fun b => m (d, b)))
  isplitl [Hb]; · iexact Hb
  isplitl [V0]; · iexact V0
  isplitl [V1]; · iexact V1
  iintro ⟨Hb, -, V1⟩
  imodintro
  iapply (unary_step main_arg1 main_v2 _ _ _ d (by decide) (m ((d : Thread nD τ).loc main_arg1)) (m ((d : Thread nD τ).loc main_v2)) (fun b => m (d, b)))
  isplitl [Hb]; · iexact Hb
  isplitl [A1]; · iexact A1
  isplitl [V2]; · iexact V2
  iintro ⟨Hb, A1, V2⟩
  imodintro
  iapply (reshape_step main_v2 main_v3 rfl shapeCasts_S4x48x48x48x64_S442368x64 _ _ d (by decide) _ (m ((d : Thread nD τ).loc main_v3)) (fun b => m (d, b)))
  isplitl [Hb]; · iexact Hb
  isplitl [V2]; · iexact V2
  isplitl [V3]; · iexact V3
  iintro ⟨Hb, -, V3⟩
  imodintro
  iapply ((K (F := F)).wp_run (D (F := F)) 𝒱 (EH := EH) (P := P m (T0 m) (T1 m)) κ d 0) $$ [Hst A0 A1 A2 A3 A4 A5 V1 V3 V40 V41 V5 V6 V7 Hb Hts HG]
  isplitr; · iexact Hctx
  isplitl [Hst]; · iexact Hst
  isplitl [A4 V1 V3 V40 V41]
  · iapply (st_of m (T0 m) (T1 m) d)
    isplitl [A4]; · iexact A4
    isplitl [V1]; · iexact V1
    isplitl [V3]; · iexact V3
    isplitl [V40] <;> iassumption
  iintro ⟨Hst, Hdn⟩
  ihave Hdn' := (dn_of m (T0 m) (T1 m) d) $$ Hdn
  icases Hdn' with ⟨A4, V40, V41⟩
  iapply (unary_step main_arg5 main_v5 _ _ _ d (by decide) (m ((d : Thread nD τ).loc main_arg5)) (m ((d : Thread nD τ).loc main_v5)) (fun b => m (d, b)))
  isplitl [Hb]; · iexact Hb
  isplitl [A5]; · iexact A5
  isplitl [V5]; · iexact V5
  iintro ⟨Hb, A5, V5⟩
  imodintro
  ihave #Hlv := (SparseCore.Cfg.ctx_levAts (K := K (F := F)) (EH := EH) (P := P m (T0 m) (T1 m)) κ) $$ Hctx
  iapply (region_step (Em m) d)
  isplitl [Hb]; · iexact Hb
  isplitl [V40 V41 V5 V6]
  · isplitl [V40]; · iexact V40
    isplitl [V41]; · iexact V41
    isplitl [V5]; · iexact V5
    iexact V6
  isplitl [Hst]; · iexact Hst
  isplitr; · iexact Hlv
  isplitl [HG]; · iexact HG
  iintro ⟨Hb, V6, Hst⟩
  imodintro
  iapply (reshape_step main_v6 main_v7 rfl shapeCasts_S1x1_S_ _ _ d (by decide) (acc1 (Em m) d) (m ((d : Thread nD τ).loc main_v7)) (fun b => m (d, b)))
  isplitl [Hb]; · iexact Hb
  isplitl [V6]; · iexact V6
  isplitl [V7]; · iexact V7
  iintro ⟨Hb, -, V7⟩
  imodintro
  imodintro
  isplitl [Hst]; · iexact Hst
  isplitr [Hb Hts]
  · isplitl [A0]; · iexact A0
    isplitl [A1]; · iexact A1
    isplitl [A2]; · iexact A2
    isplitl [A3]; · iexact A3
    isplitl [A4]; · iexact A4
    isplitl [A5]; · iexact A5
    iexact V7
  isplitl [Hb] <;> iassumption

/-- What the claims read of device `d`'s final state: the result, and the arguments unchanged. -/
def fq (d : Dev nD) (s' : Phys nD τ sig (Elt F)) : Prop :=
  s'.mem.mem ((d : Thread nD τ).loc main_v7) = Rv m d ∧ ∀ r : Ref sig .tc, r ∈ [main_arg0, main_arg1, main_arg2, main_arg3, main_arg4, main_arg5] →
    s'.mem.mem ((d : Thread nD τ).loc r) = m ((d : Thread nD τ).loc r)

/-- A buffer held beside the machine's state: the state's memory agrees, and the state is kept. -/
theorem agree (d : Dev nD) (r : Ref sig .tc) (f : r.ty.Contents (Elt F)) (s' : Phys nD τ sig (Elt F)) :
    iprop(SI s' ∗ pl d r f) ⊢ (iprop(⌜s'.mem.mem ((d : Thread nD τ).loc r) = f⌝ ∗ SI s') : sProp 𝕄) := by
  iintro H
  ihave H' := (persistent_entails_right (SI_pointsTo_agree (st := s') (ℓ := (d : Thread nD τ).loc r) (I := Finset.univ) (q := fullShare) (f := f))) $$ H
  icases H' with ⟨%h, HS, -⟩
  isplitr; · ipureintro; exact funext fun i => h i (Finset.mem_univ i)
  iexact HS

theorem hfin (d : Dev nD) (s' : Phys nD τ sig (Elt F)) : iprop(FIN m d ∗ SI s') ⊢ (⌜fq m d s'⌝ : sProp 𝕄) := by
  iintro ⟨⟨A0, A1, A2, A3, A4, A5, V7⟩, HS⟩
  ihave H := (agree d main_arg0 _ s') $$ [HS A0]
  · isplitl [HS] <;> iassumption
  icases H with ⟨%h0, HS⟩
  ihave H := (agree d main_arg1 _ s') $$ [HS A1]
  · isplitl [HS] <;> iassumption
  icases H with ⟨%h1, HS⟩
  ihave H := (agree d main_arg2 _ s') $$ [HS A2]
  · isplitl [HS] <;> iassumption
  icases H with ⟨%h2, HS⟩
  ihave H := (agree d main_arg3 _ s') $$ [HS A3]
  · isplitl [HS] <;> iassumption
  icases H with ⟨%h3, HS⟩
  ihave H := (agree d main_arg4 _ s') $$ [HS A4]
  · isplitl [HS] <;> iassumption
  icases H with ⟨%h4, HS⟩
  ihave H := (agree d main_arg5 _ s') $$ [HS A5]
  · isplitl [HS] <;> iassumption
  icases H with ⟨%h5, HS⟩
  ihave H := (agree d main_v7 _ s') $$ [HS V7]
  · isplitl [HS] <;> iassumption
  icases H with ⟨%h7, -⟩
  ipureintro
  refine ⟨h7, fun r hr => ?_⟩
  simp only [List.mem_cons, List.not_mem_nil, or_false] at hr
  rcases hr with rfl | rfl | rfl | rfl | rfl | rfl <;> assumption

/-! ## The program's run -/

/-- From any memory whose sample indices are rows of the tables, the program ends with the result at `Rv`, its arguments
    unchanged, and every counter at zero. -/
theorem run_main [∀ e, Nonempty (Elt F e)] (hpre : PreOK m) :
    θ_run (Cert.KernelIdeal.defs (F := F)) (Cert.KernelIdeal.threads (F := F)) ⟨m, fun _ => 0, ρ⟩
      fun r => (∀ d : Dev nD, r.2.mem ((d : Thread nD τ).loc main_v7) = Rv m d
          ∧ ∀ a : Ref sig .tc, a ∈ [main_arg0, main_arg1, main_arg2, main_arg3, main_arg4, main_arg5] →
              r.2.mem ((d : Thread nD τ).loc a) = m ((d : Thread nD τ).loc a)) ∧ r.2.sem = fun _ => 0 :=
  SparseCore.Cfg.θ_run_sc_quiescent (K := K (F := F)) (D := D (F := F)) (𝒱 := 𝒱) (EH := EH) (P := P m (T0 m) (T1 m)) (A := ∅) facts v₀
    (fun q hq => match q with | 0 => nomatch hq)
    (fun q _ => match q with | 0 => tileObl m (T0 m) (T1 m) facts hpre)
    (fun q _ => match q with | 0 => SparseCore.Cfg.VecSplit.of_plain (vecSplit m (T0 m) (T1 m)))
    m ρ main G (FIN m) (u₀ (F := F)) (sep_elim_left.trans (hu₀ m)) (hmain m ρ) (fq m) (hfin m) _ (fun _ h hz => ⟨h, hz⟩)

/-! ## The precondition -/

theorem andi_one : ∀ {x y : BitVec 1}, IntOp.andi x y = 1#1 → x = 1#1 ∧ y = 1#1 := by decide

/-- A sample index between 0 and the table's rows, compared as a signed word, is a row's number. -/
theorem row_of_cmp (v : BitVec 32) (e : IntOp.andi (IntOp.cmpi .sge v 0#32) (IntOp.cmpi .slt v 442368#32) = 1#1) : v.toNat < 442368 := by
  rw [show (442368#32 : BitVec 32) = BitVec.ofNat 32 442368 from rfl, WordCmp.andi_sge_zero_slt_ofNat (by decide)] at e
  exact (WordCmp.ofBool_decide_eq_one_iff _).mp e

end Cert.Proof.Moco
end
-- ==== Proof.Same.lean ====
/-
  The kernel's two printed programs, `Kernel` and `KernelIdeal`, are one program at the bit patterns once each named
  constant is read as its bits: a run of the second is a run of the first.
-/
module

public import proofs.«01_k».proof.Defs

@[expose] public section

set_option maxRecDepth 100000
set_option maxHeartbeats 40000000

noncomputable section

namespace Cert.Proof

open Idealize.ShloMosaic Idealize.SL.Sem

/-- A named constant read at the bit patterns: the printed bits. -/
instance namedBits : Named Bits := ⟨fun _ _ {φ} b => Scalar.ofBits φ b⟩

variable [Cert.Kernel.Facts] [Cert.KernelIdeal.Facts]

/-- The two programs' kernel bodies are equal, on each kind of processor. -/
theorem bodies_eq : Cert.Kernel.defs₀ (F := Bits) = Cert.KernelIdeal.defs₀ (F := Bits) := by
  funext p l x
  rcases p with _ | c | ⟨c, s⟩
  · match l, x with
    | 0, x => rfl
    | 1, (t, s) => rfl
    | ⟨_ + 2, h⟩, _ => exact absurd h (Nat.not_lt.2 (Nat.le_add_left _ _))
  · match l, x with
    | 0, x => rfl
    | 1, (t, s) => rfl
    | ⟨_ + 2, h⟩, _ => exact absurd h (Nat.not_lt.2 (Nat.le_add_left _ _))
  · match l, x with
    | 0, x => rfl
    | 1, (t, s) => rfl
    | ⟨_ + 2, h⟩, _ => exact absurd h (Nat.not_lt.2 (Nat.le_add_left _ _))

/-- What holds of every run of `KernelIdeal` at the bit patterns holds of every run of `Kernel`. -/
theorem kernel_of_ideal (m : (ℓ : Loc Cert.KernelIdeal.nD Cert.KernelIdeal.τ Cert.KernelIdeal.sig) → Buf (Elt Bits) ℓ)
    (g : Dev Cert.KernelIdeal.nD → PrngReg) (Q)
    (h : θ_run (Cert.KernelIdeal.defs (F := Bits)) (Cert.KernelIdeal.threads (F := Bits)) ⟨m, fun _ => 0, g⟩ Q) :
    θ_run (Cert.Kernel.defs (F := Bits)) (Cert.Kernel.threads (F := Bits)) ⟨m, fun _ => 0, g⟩ Q := by
  have e : Cert.Kernel.defs (F := Bits) = Cert.KernelIdeal.defs (F := Bits) :=
    congrArg (fun d => (Cert.KernelIdeal.sc (F := Bits)).defs (Pipeline.defs (Cert.KernelIdeal.pcfgs (F := Bits)) d)) bodies_eq
  rw [e]; exact h

end Cert.Proof

end
-- ==== Proof.Frames.lean ====
/-
  The precondition read as the gather needs it, and the frames: each program ends, its arguments unchanged and its
  counters at zero.
-/
module

public import proofs.«01_k».proof.Proof.Run
public import proofs.«01_k».proof.Proof.Same
public import proofs.«01_k».proof.Proof.Gen.Kernel
public import proofs.«01_k».proof.Proof.Gen.Pre_in_range
public import proofs.«01_k».proof.Proof.Gen.Reference.Run
public import proofs.«01_k».proof.Proof.Gen.ReferenceIdeal.Run

@[expose] public section

noncomputable section

namespace Cert.Proof.Moco

open Cert.KernelIdeal Cert.KernelIdeal.Gen
open Idealize.ShloMosaic Idealize.ShloMosaic.TcCoe Idealize.SL.Sem

/-! ## The precondition -/

/-- `in_range`: every sample index is a row of the tables. -/
theorem ok_of_range {F : FTy → Type} [FloatOps F] (m : (ℓ : Loc nD τ sig) → Buf (Elt F) ℓ)
    (h : ∀ d : Dev nD, Cert.Pre_in_range.fn (F := F) (m ((d : Thread nD τ).loc main_arg0)) (m ((d : Thread nD τ).loc main_arg1))
      (m ((d : Thread nD τ).loc main_arg2)) (m ((d : Thread nD τ).loc main_arg3)) (m ((d : Thread nD τ).loc main_arg4))
      (m ((d : Thread nD τ).loc main_arg5)) = fun _ => 1#1) : PreOK m := fun d j =>
  row_of_cmp _ (congrFun (h d) j)

/-! ## The frames -/

/-- The kernel as printed. -/
theorem frame_p : Cert.quiescent_Kernel := fun m ρ hpre =>
  kernel_of_ideal m ρ _ ((θ_run _ _ _).mono (fun _ h => ⟨fun c => ⟨(h.1 c).2 _ (by simp), (h.1 c).2 _ (by simp), (h.1 c).2 _ (by simp), (h.1 c).2 _ (by simp),
    (h.1 c).2 _ (by simp), (h.1 c).2 _ (by simp)⟩, h.2⟩) (run_main (F := Bits) m ρ (ok_of_range m hpre)))

/-- The kernel's idealization. -/
theorem frame_pi : Cert.quiescent_KernelIdeal := fun m ρ hpre =>
  (θ_run _ _ _).mono (fun _ h => ⟨fun c => ⟨(h.1 c).2 _ (by simp), (h.1 c).2 _ (by simp), (h.1 c).2 _ (by simp), (h.1 c).2 _ (by simp),
    (h.1 c).2 _ (by simp), (h.1 c).2 _ (by simp)⟩, h.2⟩) (run_main (F := Ideal) m ρ (ok_of_range m hpre))

/-- The reference as printed. -/
theorem frame_r : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- The reference's idealization. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealization's only changes are its three named constants, each the value its name has. -/
theorem preserves : Cert.preserves_Kernel_KernelIdeal :=
  ⟨IdealRules.named_const.statement Cert.KernelIdeal.κ "scale" .f32 0x41A4E123#32 (((100 / 7) * (Real.log 2)⁻¹ : ℝ) : EReal) rfl,
   IdealRules.named_const.statement Cert.KernelIdeal.κ "log2e" .f32 0x3FB8AA3B#32 (((Real.log 2)⁻¹ : ℝ) : EReal) rfl,
   IdealRules.named_const.statement Cert.KernelIdeal.κ "ln2_over_n" .f32 0x39B17218#32 (((Real.log 2) * (1 / 2048) : ℝ) : EReal) rfl⟩

end Cert.Proof.Moco

end
-- ==== Proof.Finite.lean ====
/-
  The precondition `finite_in_range` read element by element, and the frames under it.
-/
module

public import proofs.«01_k».proof.Proof.Frames
public import proofs.«01_k».proof.Proof.Gen.Pre_finite_in_range
public import Idealize.ShloMosaic.Lib.ReduceAll

@[expose] public section

noncomputable section

namespace Cert.Proof.Moco

open Cert.KernelIdeal Cert.KernelIdeal.Gen
open Idealize.ShloMosaic Idealize.ShloMosaic.TcCoe Idealize.SL.Sem

/-- `finite_in_range`: every sample index is a row of the tables, and every element of the embeddings and of the queue
    lies below infinity in absolute value. -/
theorem finite_parts {F : FTy → Type} [FloatOps F] (x0 x1 : Vec F S4x64x48x48x48 .f32) (x2 x3 : Vec F S4x1x48x48x48 .f32)
    (p : Vec F S2048 .i32) (w : Vec F S8192x64 .f32) (h : Cert.Pre_finite_in_range.fn (F := F) x0 x1 x2 x3 p w = fun _ => 1#1) :
    (∀ j, (p j).toNat < 442368)
      ∧ (∀ i, FloatOps.cmpf .olt (Host.absf x0 i) (FloatOps.ofBits .f32 0x7F800000#32) = 1#1)
      ∧ (∀ i, FloatOps.cmpf .olt (Host.absf x1 i) (FloatOps.ofBits .f32 0x7F800000#32) = 1#1)
      ∧ (∀ i, FloatOps.cmpf .olt (Host.absf w i) (FloatOps.ofBits .f32 0x7F800000#32) = 1#1) := by
  have e := congrFun h (fun a => a.elim0)
  simp only [Cert.Pre_finite_in_range.fn, Cert.Pre_finite_in_range.fn_part1] at e
  obtain ⟨e, ew⟩ := andi_one e
  obtain ⟨e, e1⟩ := andi_one e
  obtain ⟨ep, e0⟩ := andi_one e
  have : Subsingleton Cert.Pre_finite_in_range.S_.Idx := ⟨fun a b => funext fun i => i.elim0⟩
  exact ⟨fun j => row_of_cmp _ (Host.reduce_andi_all _ _ _ _ _ ep j), fun i => Host.reduce_andi_all _ _ _ _ _ e0 i,
    fun i => Host.reduce_andi_all _ _ _ _ _ e1 i, fun i => Host.reduce_andi_all _ _ _ _ _ ew i⟩

/-- The kernel's idealization ends, its arguments unchanged, its counters at zero. -/
theorem frame_pi' : Cert.quiescent_KernelIdeal_pre_finite_in_range := fun m ρ hpre =>
  (θ_run _ _ _).mono (fun _ h => ⟨fun c => ⟨(h.1 c).2 _ (by simp), (h.1 c).2 _ (by simp), (h.1 c).2 _ (by simp), (h.1 c).2 _ (by simp),
    (h.1 c).2 _ (by simp), (h.1 c).2 _ (by simp)⟩, h.2⟩) (run_main (F := Ideal) m ρ fun d => (finite_parts _ _ _ _ _ _ (hpre d)).1)

/-- So does the reference's. -/
theorem frame_ri' : Cert.quiescent_ReferenceIdeal_pre_finite_in_range := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Moco

end
-- ==== Proof.Loss.lean ====
/-
  The loss the kernel computes, over the reals: each sample's logarithm of the sum of the exponentials of its logits
  less the logit of its positive pair, summed over the samples and divided by their number.
-/
module

public import proofs.«01_k».proof.Proof.Run
public import Idealize.ShloMosaic.Lib.ValueIdx
public import Idealize.ShloMosaic.Lib.ValueLayout
public import Idealize.ShloMosaic.Lib.ValueLayoutCasts
public import Idealize.ShloMosaic.Lib.IdealHost

@[expose] public section

noncomputable section

namespace Cert.Proof.Moco

open Cert.KernelIdeal Cert.KernelIdeal.Gen
open Idealize.ShloMosaic Idealize.ShloMosaic.TcCoe Idealize.ShloMosaic.ValueIdx
open scoped BigOperators

/-! ## Real numbers among the extended reals -/

/-- A finite sum of reals is the same sum of extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greater of two reals is the same among the extended reals. -/
theorem coe_max (a b : ℝ) : ((max a b : ℝ) : EReal) = max (a : EReal) (b : EReal) := EReal.coe_strictMono.monotone.map_max

/-- The greatest of finitely many reals, at least one, is a real. -/
theorem fold_max_real {n : Nat} (f : Fin (n + 1) → ℝ) :
    ∃ μ : ℝ, (Finset.univ : Finset (Fin (n + 1))).fold max (⊥ : EReal) (fun i => (f i : EReal)) = μ := by
  classical
  have h : ∀ s : Finset (Fin (n + 1)), s = ∅ ∨ ∃ μ : ℝ, s.fold max (⊥ : EReal) (fun i => (f i : EReal)) = μ := by
    intro s
    induction s using Finset.induction_on with
    | empty => exact .inl rfl
    | insert a s ha ih =>
      refine .inr ?_
      rw [Finset.fold_insert ha]
      rcases ih with rfl | ⟨μ, hμ⟩
      · exact ⟨f a, by simp⟩
      · exact ⟨max (f a) μ, by rw [hμ, coe_max]⟩
  exact (h _).resolve_left Finset.univ_nonempty.ne_empty

/-- The word of −∞. -/
theorem ofBits_neg_inf : Ideal.ofBits .f32 0xFF800000#32 = ⊥ := by simp [Ideal.ofBits, Ideal.ieee]

/-- The logarithm of a positive real. -/
theorem log_pos_coe {x : ℝ} (h : 0 < x) : Ideal.log (x : EReal) = (Real.log x : EReal) := by
  rw [Ideal.log_coe, if_neg (not_le.mpr h)]

/-- Two to the power of a real, by the exponential. -/
theorem exp2_real (x : ℝ) : Ideal.exp2 (x : EReal) = (Real.exp (x * Real.log 2) : EReal) := by
  rw [Ideal.exp2_coe, show Real.rpow 2 x = (2 : ℝ) ^ x from rfl, Real.rpow_def_of_pos two_pos, mul_comm]

/-! ## The loss of one sample -/

/-- The loss of a sample `q` whose positive pair is `k`, against the rows `w`: the logits are the inner products times
    100/7, the positive pair's first. -/
def nll (q k : Fin 64 → ℝ) (w : Fin 8192 → Fin 64 → ℝ) : ℝ :=
  Real.log (Real.exp ((∑ c, q c * k c) * (100 / 7)) + ∑ j, Real.exp ((∑ c, q c * w j c) * (100 / 7)))
    - (∑ c, q c * k c) * (100 / 7)

/-- The kernel's scale: the inverse temperature over the logarithm of two. -/
abbrev sc : ℝ := 100 / 7 * (Real.log 2)⁻¹

theorem scale_val : (Named.named (F := Ideal) (φ := .f32) κ "scale" 0x41A4E123#32) = ((sc : ℝ) : EReal) :=
  IdealRules.named_const.ideal_named_scalar κ "scale" _ _ rfl
theorem log2e_val : (Named.named (F := Ideal) (φ := .f32) κ "log2e" 0x3FB8AA3B#32) = (((Real.log 2)⁻¹ : ℝ) : EReal) :=
  IdealRules.named_const.ideal_named_scalar κ "log2e" _ _ rfl
theorem ln2n_val : (Named.named (F := Ideal) (φ := .f32) κ "ln2_over_n" 0x39B17218#32) = ((Real.log 2 * (1 / 2048) : ℝ) : EReal) :=
  IdealRules.named_const.ideal_named_scalar κ "ln2_over_n" _ _ rfl

/-- Row `c` of chunk `j` of the queue. -/
abbrev crow (j : Fin 8) (c : Fin 1024) : Fin 8192 := ⟨1024 * j.val + c.val, by omega⟩

section Block
variable (x1 x2 : Vec Ideal S1024x64 .f32) (x3 : Vec Ideal S8192x64 .bf16)
  (q k : Fin 1024 → Fin 64 → ℝ) (w : Fin 8192 → Fin 64 → ℝ)

/-- The positive logit in base 2. -/
theorem pay4_real (h1 : ∀ r c, x1 (ix2 r c) = (q r c : EReal)) (h2 : ∀ r c, x2 (ix2 r c) = (k r c : EReal)) (r : Fin 1024) :
    k1_pay4 x1 x2 (ix1 r) = (((∑ c, q r c * k r c) * sc : ℝ) : EReal) := by
  show multiReduction .add [1] S1024 (mulf (shapeCast S1024x64 x1 _) (shapeCast S1024x64 x2 _)) 0x00000000#32
    reduces_S1024x64_S1024 (.inl rfl) rfl (ix1 r) * Named.named (F := Ideal) (φ := .f32) κ "scale" 0x41A4E123#32 = _
  rw [scale_val, shapeCast_self, shapeCast_self, EReal.coe_mul (∑ c, q r c * k r c) sc, coe_sum]
  refine congrArg (· * _) ((Ideal.multiReduction_add_single (φ := .f32) _ _ reduces_S1024x64_S1024 (.inl rfl) rfl (ix1 r)).trans (Finset.sum_congr rfl fun c _ => ?_))
  have e : reduces_S1024x64_S1024.lift (ix1 r) c = ix2 r c := by funext a; match a with | ⟨0, _⟩ => rfl | ⟨1, _⟩ => rfl
  rw [mulf_apply, e]
  exact (congrArg₂ (· * ·) (h1 r c) (h2 r c)).trans (EReal.coe_mul _ _).symm

/-- The logits of a chunk of the queue in base 2. -/
theorem pay16_real (h1 : ∀ r c, x1 (ix2 r c) = (q r c : EReal)) (h3 : ∀ r c, x3 (ix2 r c) = (w r c : EReal)) (j : Fin 8) (r c : Fin 1024) :
    k1_pay16 (k1_pay5 x1) (chunk x3 j) (ix2 r c) = (((∑ d, q r d * w (crow j c) d) * sc : ℝ) : EReal) := by
  show FloatOps.matmul dot_S1024x64_S1024x64_S1024x1024_1_1_0_0_n_n none (k1_pay5 x1) (shapeCast S1024x64 (chunk x3 j) _)
    (constant S1024x1024 .f32 0x00000000#32) (ix2 r c) = _
  rw [Ideal.matmul_constant_zero_apply, shapeCast_self, Finset.sum_mul, coe_sum,
    ← Equiv.sum_comp (contrEquiv1 dot_S1024x64_S1024x64_S1024x1024_1_1_0_0_n_n 64 rfl rfl).symm]
  refine Finset.sum_congr rfl fun d _ => ?_
  have el : dot_S1024x64_S1024x64_S1024x1024_1_1_0_0_n_n.lhsIdx (ix2 r c) ((contrEquiv1 dot_S1024x64_S1024x64_S1024x1024_1_1_0_0_n_n 64 rfl rfl).symm d)
      = ix2 r d := by funext a; match a with | ⟨0, _⟩ => rfl | ⟨1, _⟩ => rfl
  have er : dot_S1024x64_S1024x64_S1024x1024_1_1_0_0_n_n.rhsIdx (ix2 r c) ((contrEquiv1 dot_S1024x64_S1024x64_S1024x1024_1_1_0_0_n_n 64 rfl rfl).symm d)
      = ix2 c d := by funext a; match a with | ⟨0, _⟩ => rfl | ⟨1, _⟩ => rfl
  rw [el, er]
  have e5 : k1_pay5 x1 (ix2 r d) = x1 (ix2 r d) * Named.named (F := Ideal) (φ := .f32) κ "scale" 0x41A4E123#32 := by
    show shapeCast S1024x64 x1 _ (ix2 r d) * _ = _
    rw [shapeCast_self]
    rfl
  have e3 : chunk x3 j (ix2 c d) = x3 (ix2 (crow j c) d) := by
    unfold chunk
    exact congrArg x3 (by funext a; match a with | ⟨0, _⟩ => rfl | ⟨1, _⟩ => rfl)
  rw [e5, e3, h1, h3, scale_val, ← EReal.coe_mul, ← EReal.coe_mul]
  congr 1; ring

/-- A chunk's row maximum is a real `μ`, and its sum of powers of two is the chunk's sum of exponentials over `2 ^ μ`. -/
theorem chunk_real (h1 : ∀ r c, x1 (ix2 r c) = (q r c : EReal)) (h3 : ∀ r c, x3 (ix2 r c) = (w r c : EReal)) (j : Fin 8) (r : Fin 1024) :
    ∃ μ : ℝ, k1_pay17 (k1_pay5 x1) (chunk x3 j) (ix1 r) = (μ : EReal)
      ∧ k1_pay18 (k1_pay5 x1) (chunk x3 j) (ix1 r)
        = (((∑ c, Real.exp ((∑ d, q r d * w (crow j c) d) * (100 / 7))) * Real.exp (-(μ * Real.log 2)) : ℝ) : EReal) := by
  have e : ∀ c : Fin 1024, reduces_S1024x1024_S1024.lift (ix1 r) c = ix2 r c := fun c => by
    funext a; match a with | ⟨0, _⟩ => rfl | ⟨1, _⟩ => rfl
  obtain ⟨μ, hμ⟩ := fold_max_real (n := 1023) (fun c => (∑ d, q r d * w (crow j c) d) * sc)
  have e17 : k1_pay17 (k1_pay5 x1) (chunk x3 j) (ix1 r) = (μ : EReal) := by
    show multiReduction .maximumf [1] S1024 (k1_pay16 (k1_pay5 x1) (chunk x3 j)) 0xFF800000#32 reduces_S1024x1024_S1024 (.inl rfl) rfl (ix1 r) = _
    refine (Ideal.multiReduction_maximumf_single (φ := .f32) _ _ reduces_S1024x1024_S1024 (.inl rfl) rfl (ix1 r)).trans ?_
    rw [← hμ]
    show Finset.univ.fold max (Ideal.ofBits .f32 0xFF800000#32) _ = _
    rw [ofBits_neg_inf]
    refine congrArg (Finset.fold max ⊥ · _) (funext fun c => ?_)
    exact (congrArg _ (e c)).trans (pay16_real x1 x3 q w h1 h3 j r c)
  refine ⟨μ, e17, ?_⟩
  show multiReduction .add [1] S1024 (exp2 (subf (k1_pay16 (k1_pay5 x1) (chunk x3 j))
    (broadcastTo S1024x1024 (shapeCast S1024x1 (k1_pay17 (k1_pay5 x1) (chunk x3 j)) _) _))) 0x00000000#32 reduces_S1024x1024_S1024 (.inl rfl) rfl (ix1 r) = _
  refine (Ideal.multiReduction_add_single (φ := .f32) _ _ reduces_S1024x1024_S1024 (.inl rfl) rfl (ix1 r)).trans ?_
  rw [Finset.sum_mul, coe_sum]
  refine Finset.sum_congr rfl fun c _ => ?_
  rw [e c]
  have eb : broadcastTo S1024x1024 (shapeCast S1024x1 (k1_pay17 (k1_pay5 x1) (chunk x3 j)) shapeCasts_S1024_S1024x1) broadcasts_S1024x1_S1024x1024 (ix2 r c)
      = (μ : EReal) := by
    rw [broadcastTo_apply _ _ _ (ix2 r 0) (fun a => by match a with | ⟨0, _⟩ => rfl | ⟨1, _⟩ => rfl), shapeCast_a_a1_apply, e17]
  show Ideal.exp2 (k1_pay16 (k1_pay5 x1) (chunk x3 j) (ix2 r c) - broadcastTo S1024x1024 _ _ (ix2 r c)) = _
  rw [eb, pay16_real x1 x3 q w h1 h3 j r c, ← EReal.coe_sub, exp2_real, ← Real.exp_add]
  have hl : Real.log 2 ≠ 0 := (Real.log_pos one_lt_two).ne'
  refine congrArg (fun x : ℝ => ((Real.exp x : ℝ) : EReal)) ?_
  unfold sc
  field_simp
  ring

/-! ### The chunks put together -/

/-- The kernel's last step on one row: the greatest of the maxima, the logarithm in base 2 of the sum, less the positive logit. -/
def comb (p : EReal) (a b : Fin 8 → EReal) : EReal :=
  let M := max (max (max (max (max (max (max (max p (a 0)) (a 1)) (a 2)) (a 3)) (a 4)) (a 5)) (a 6)) (a 7)
  M + Ideal.log (Ideal.exp2 (p - M) + b 0 * Ideal.exp2 (a 0 - M) + b 1 * Ideal.exp2 (a 1 - M) + b 2 * Ideal.exp2 (a 2 - M)
    + b 3 * Ideal.exp2 (a 3 - M) + b 4 * Ideal.exp2 (a 4 - M) + b 5 * Ideal.exp2 (a 5 - M) + b 6 * Ideal.exp2 (a 6 - M)
    + b 7 * Ideal.exp2 (a 7 - M)) * (((Real.log 2)⁻¹ : ℝ) : EReal) - p

/-- The kernel's last step, read at a row. -/
theorem pay28_at (v : FVec Ideal S1024 .f32) (y : FVec Ideal S1024x64 .bf16) (a b : Fin 8 → FVec Ideal S1024 .f32) (z : Vec Ideal S1024x64 .bf16)
    (ha : a 7 = k1_pay17 y z) (hb : b 7 = k1_pay18 y z) (r : Fin 1024) :
    k1_pay28 v y (a 0) (b 0) (a 1) (b 1) (a 2) (b 2) (a 3) (b 3) (a 4) (b 4) (a 5) (b 5) (a 6) (b 6) z (ix2 0 r)
      = comb (v (ix1 r)) (fun j => a j (ix1 r)) (fun j => b j (ix1 r)) := by
  unfold comb
  dsimp only
  rw [← log2e_val, ha, hb]
  have hl (x : FVec Ideal S1024 .f32) (i) : log x i = Ideal.log (x i) := rfl
  have he (x : FVec Ideal S1024 .f32) (i) : exp2 x i = Ideal.exp2 (x i) := rfl
  delta k1_pay28 k1_pay18 k1_pay17 k1_pay16
  refine (shapeCast_a_1a_apply _ shapeCasts_S1024_S1x1024 0 r).trans ?_
  simp only [ValueIdx.subf_apply, ValueIdx.addf_apply, ValueIdx.mulf_apply, ValueIdx.maximumf_apply, hl, he, broadcast_apply]

/-- The row of losses, read at a row. -/
theorem lossRow_at (r : Fin 1024) : lossRow x1 x2 x3 (ix2 0 r)
    = comb (k1_pay4 x1 x2 (ix1 r)) (fun j => k1_pay17 (k1_pay5 x1) (chunk x3 j) (ix1 r)) (fun j => k1_pay18 (k1_pay5 x1) (chunk x3 j) (ix1 r)) :=
  pay28_at (k1_pay4 x1 x2) (k1_pay5 x1) (fun j => k1_pay17 (k1_pay5 x1) (chunk x3 j)) (fun j => k1_pay18 (k1_pay5 x1) (chunk x3 j)) (chunk x3 7) rfl rfl r

/-- The last step on reals: the shifts by the maxima cancel. -/
theorem comb_real (p : ℝ) (μ Z : Fin 8 → ℝ) (hZ : ∀ j, 0 ≤ Z j) :
    comb (p : EReal) (fun j => (μ j : EReal)) (fun j => ((Z j * Real.exp (-(μ j * Real.log 2)) : ℝ) : EReal))
      = ((Real.log (Real.exp (p * Real.log 2) + ∑ j, Z j) * (Real.log 2)⁻¹ - p : ℝ) : EReal) := by
  obtain ⟨M, hM⟩ : ∃ M : ℝ, max (max (max (max (max (max (max (max (p : EReal) (μ 0)) (μ 1)) (μ 2)) (μ 3)) (μ 4)) (μ 5)) (μ 6)) (μ 7) = (M : EReal) :=
    ⟨max (max (max (max (max (max (max (max p (μ 0)) (μ 1)) (μ 2)) (μ 3)) (μ 4)) (μ 5)) (μ 6)) (μ 7), by simp only [coe_max]⟩
  unfold comb
  dsimp only
  rw [hM]
  have hb : ∀ j, ((Z j * Real.exp (-(μ j * Real.log 2)) : ℝ) : EReal) * Ideal.exp2 ((μ j : EReal) - (M : EReal))
      = ((Z j * Real.exp (-(M * Real.log 2)) : ℝ) : EReal) := fun j => by
    rw [← EReal.coe_sub, exp2_real, ← EReal.coe_mul, mul_assoc, ← Real.exp_add]
    congr 3; ring
  have hp : Ideal.exp2 ((p : EReal) - (M : EReal)) = ((Real.exp (p * Real.log 2) * Real.exp (-(M * Real.log 2)) : ℝ) : EReal) := by
    rw [← EReal.coe_sub, exp2_real, ← Real.exp_add]
    congr 2; ring
  have hS : 0 ≤ ∑ j, Z j := Finset.sum_nonneg fun j _ => hZ j
  have hl : Real.log 2 ≠ 0 := (Real.log_pos one_lt_two).ne'
  rw [hp, hb, hb, hb, hb, hb, hb, hb, hb]
  simp only [← EReal.coe_add]
  rw [show Real.exp (p * Real.log 2) * Real.exp (-(M * Real.log 2)) + Z 0 * Real.exp (-(M * Real.log 2)) + Z 1 * Real.exp (-(M * Real.log 2))
      + Z 2 * Real.exp (-(M * Real.log 2)) + Z 3 * Real.exp (-(M * Real.log 2)) + Z 4 * Real.exp (-(M * Real.log 2))
      + Z 5 * Real.exp (-(M * Real.log 2)) + Z 6 * Real.exp (-(M * Real.log 2)) + Z 7 * Real.exp (-(M * Real.log 2))
      = (Real.exp (p * Real.log 2) + ∑ j, Z j) * Real.exp (-(M * Real.log 2)) from by rw [Fin.sum_univ_eight]; ring,
    log_pos_coe (by positivity), Real.log_mul (by positivity) (by positivity), Real.log_exp, ← EReal.coe_mul, ← EReal.coe_add, ← EReal.coe_sub]
  congr 1
  field_simp
  ring

/-- A sum over the chunks and their rows is a sum over the queue's rows. -/
theorem sum_rows (f : Fin 8192 → ℝ) : ∑ j : Fin 8, ∑ c : Fin 1024, f (crow j c) = ∑ i, f i := by
  rw [← Fintype.sum_prod_type' (f := fun j c => f (crow j c))]
  exact Fintype.sum_equiv (finProdFinEquiv.trans (finCongr (by norm_num : 8 * 1024 = 8192))) _ _ fun x =>
    congrArg f (Fin.ext (Nat.add_comm _ _))

/-- The row of losses holds, at each row, the sample's loss over the logarithm of two. -/
theorem lossRow_real (h1 : ∀ r c, x1 (ix2 r c) = (q r c : EReal)) (h2 : ∀ r c, x2 (ix2 r c) = (k r c : EReal))
    (h3 : ∀ r c, x3 (ix2 r c) = (w r c : EReal)) (r : Fin 1024) :
    lossRow x1 x2 x3 (ix2 0 r) = ((nll (q r) (k r) w * (Real.log 2)⁻¹ : ℝ) : EReal) := by
  choose μ e17 e18 using fun j => chunk_real x1 x3 q w h1 h3 j r
  rw [lossRow_at, pay4_real x1 x2 q k h1 h2 r]
  simp only [e17, e18]
  rw [comb_real _ μ (fun j => ∑ c, Real.exp ((∑ d, q r d * w (crow j c) d) * (100 / 7)))
      (fun j => Finset.sum_nonneg fun c _ => (Real.exp_pos _).le),
    sum_rows (fun i => Real.exp ((∑ d, q r d * w i d) * (100 / 7)))]
  have hl : Real.log 2 ≠ 0 := (Real.log_pos one_lt_two).ne'
  have hs : (∑ c, q r c * k r c) * sc * Real.log 2 = (∑ c, q r c * k r c) * (100 / 7) := by
    unfold sc; field_simp
  rw [hs]
  unfold nll sc
  congr 1
  ring

end Block

/-! ## The sum over the samples -/

/-- One grid point adds its block's losses, each over the number of samples. -/
theorem pay2_real (row : FVec Ideal S1x1024 .f32) (acc : Vec Ideal S1x1 .f32) (f : Fin 1024 → ℝ) (a : ℝ)
    (hr : ∀ r, row (ix2 0 r) = ((f r * (Real.log 2)⁻¹ : ℝ) : EReal)) (ha : acc (ix2 0 0) = (a : EReal)) :
    k1_pay2 row acc (ix2 0 0) = ((a + (∑ r, f r) * (1 / 2048) : ℝ) : EReal) := by
  have hl : Real.log 2 ≠ 0 := (Real.log_pos one_lt_two).ne'
  have e0 : multiReduction .add [1] S1 row 0x00000000#32 reduces_S1x1024_S1 (.inl rfl) rfl (ix1 0)
      = ((∑ r, f r * (Real.log 2)⁻¹ : ℝ) : EReal) := by
    refine (Ideal.multiReduction_add_single (φ := .f32) row _ reduces_S1x1024_S1 (.inl rfl) rfl (ix1 0)).trans ?_
    rw [coe_sum]
    refine Finset.sum_congr rfl fun c _ => ?_
    have e : reduces_S1x1024_S1.lift (ix1 0) c = ix2 0 c := by funext a; match a with | ⟨0, _⟩ => rfl | ⟨1, _⟩ => rfl
    rw [e]; exact hr c
  have e1 : extractAt ![0, 0] (shapeCast S1x1 (multiReduction .add [1] S1 row 0x00000000#32 reduces_S1x1024_S1 (.inl rfl) rfl) shapeCasts_S1_S1x1) inpos_S1x1_p0_0
      = ((∑ r, f r * (Real.log 2)⁻¹ : ℝ) : EReal) := by
    refine Eq.trans ?_ ((shapeCast_a_1a_apply _ shapeCasts_S1_S1x1 0 0).trans e0)
    exact congrArg (shapeCast S1x1 _ _) (by funext a; match a with | ⟨0, _⟩ => rfl | ⟨1, _⟩ => rfl)
  show shapeCast S1x1 acc _ (ix2 0 0) + extractAt ![0, 0] (shapeCast S1x1 _ _) _ * Named.named (F := Ideal) (φ := .f32) κ "ln2_over_n" 0x39B17218#32 = _
  rw [shapeCast_self, ha, e1, ln2n_val, ← EReal.coe_mul, ← EReal.coe_add, ← Finset.sum_mul]
  congr 1
  field_simp

/-- Row `r` of grid point `t`'s block. -/
abbrev brow (t : Fin 2) (r : Fin 1024) : Fin 2048 := ⟨1024 * t.val + r.val, by omega⟩

section Blocks
variable (E : Dev nD → Ent Ideal) (d : Dev nD)

theorem blk_q (t : Fin cfg1.N) (r : Fin 1024) (c : Fin 64) : blkAt E d 0 t (ix2 r c) = (E d).q (ix2 (brow t r) c) := by
  have hi : win1_0.index t 0 = t.val ∧ win1_0.index t 1 = 0 := by fin_cases t <;> decide
  unfold blkAt
  rw [View.read_apply]
  show (E d).q _ = (E d).q _
  congr 1
  funext a
  apply Fin.ext
  match a with
  | ⟨0, _⟩ => show win1_0.index t 0 * 1024 + 1 * r.val = 1024 * t.val + r.val; rw [hi.1]; omega
  | ⟨1, _⟩ => show win1_0.index t 1 * 64 + 1 * c.val = c.val; rw [hi.2]; omega

theorem blk_k (t : Fin cfg1.N) (r : Fin 1024) (c : Fin 64) : blkAt E d 1 t (ix2 r c) = (E d).k (ix2 (brow t r) c) := by
  have hi : win1_1.index t 0 = t.val ∧ win1_1.index t 1 = 0 := by fin_cases t <;> decide
  unfold blkAt
  rw [View.read_apply]
  show (E d).k _ = (E d).k _
  congr 1
  funext a
  apply Fin.ext
  match a with
  | ⟨0, _⟩ => show win1_1.index t 0 * 1024 + 1 * r.val = 1024 * t.val + r.val; rw [hi.1]; omega
  | ⟨1, _⟩ => show win1_1.index t 1 * 64 + 1 * c.val = c.val; rw [hi.2]; omega

theorem blk_w (t : Fin cfg1.N) (r : Fin 8192) (c : Fin 64) : blkAt E d 2 t (ix2 r c) = (E d).w (ix2 r c) := by
  have hi : win1_2.index t 0 = 0 ∧ win1_2.index t 1 = 0 := by fin_cases t <;> decide
  unfold blkAt
  rw [View.read_apply]
  show (E d).w _ = (E d).w _
  congr 1
  funext a
  apply Fin.ext
  match a with
  | ⟨0, _⟩ => show win1_2.index t 0 * 8192 + 1 * r.val = r.val; rw [hi.1]; omega
  | ⟨1, _⟩ => show win1_2.index t 1 * 64 + 1 * c.val = c.val; rw [hi.2]; omega

/-- A sum over the two blocks and their rows is a sum over the samples. -/
theorem sum_blocks (f : Fin 2048 → ℝ) : ∑ r : Fin 1024, f (brow 0 r) + ∑ r : Fin 1024, f (brow 1 r) = ∑ n, f n := by
  rw [← Fin.sum_univ_two (f := fun t : Fin 2 => ∑ r : Fin 1024, f (brow t r)), ← Fintype.sum_prod_type' (f := fun t r => f (brow t r))]
  exact Fintype.sum_equiv (finProdFinEquiv.trans (finCongr (by norm_num : 2 * 1024 = 2048))) _ _ fun x =>
    congrArg f (Fin.ext (Nat.add_comm _ _))

/-- The loss kernel leaves the mean of the samples' losses. -/
theorem acc1_real (q k : Fin 2048 → Fin 64 → ℝ) (w : Fin 8192 → Fin 64 → ℝ)
    (hq : ∀ n c, (E d).q (ix2 n c) = (q n c : EReal)) (hk : ∀ n c, (E d).k (ix2 n c) = (k n c : EReal))
    (hw : ∀ n c, (E d).w (ix2 n c) = (w n c : EReal)) :
    acc1 E d (ix2 0 0) = (((∑ n, nll (q n) (k n) w) * (1 / 2048) : ℝ) : EReal) := by
  have row (t : Fin cfg1.N) (r : Fin 1024) : rowAt E d t (ix2 0 r) = ((nll (q (brow t r)) (k (brow t r)) w * (Real.log 2)⁻¹ : ℝ) : EReal) :=
    lossRow_real _ _ _ (fun r => q (brow t r)) (fun r => k (brow t r)) w (fun r c => (blk_q E d t r c).trans (hq _ _))
      (fun r c => (blk_k E d t r c).trans (hk _ _)) (fun r c => (blk_w E d t r c).trans (hw _ _)) r
  have h0 : k1_pay1 (F := Ideal) (ix2 0 0) = ((0 : ℝ) : EReal) := Ideal.ofBits_zero_f32.trans EReal.coe_zero.symm
  have a0 := pay2_real (rowAt E d t1_0) (k1_pay1 (F := Ideal)) (fun r => nll (q (brow 0 r)) (k (brow 0 r)) w) 0 (row t1_0) h0
  have a1 := pay2_real (rowAt E d t1_1) (acc0 E d) (fun r => nll (q (brow 1 r)) (k (brow 1 r)) w) _ (row t1_1) a0
  refine a1.trans ?_
  rw [← sum_blocks (fun n => nll (q n) (k n) w)]
  congr 1; ring

end Blocks

end Cert.Proof.Moco
-- ==== Proof.Ref.lean ====
/-
  The reference's result over the reals: on finite inputs and sample indices that are rows of the tables, the mean of
  the samples' losses.
-/
module

public import proofs.«01_k».proof.Proof.Loss
public import proofs.«01_k».proof.Proof.Gen.ReferenceIdeal.Run
public import Idealize.ShloMosaic.Lib.Routing.Ops
public import Idealize.ShloMosaic.Lib.ReduceAll
public import Idealize.ShloMosaic.Lib.ValueIdxRank1
public import Idealize.ShloMosaic.Lib.WordCmp

@[expose] public section

noncomputable section

namespace Cert.Proof.Moco.Ref

open Cert.ReferenceIdeal Cert.ReferenceIdeal.Gen
open Idealize.ShloMosaic Idealize.ShloMosaic.TcCoe Idealize.ShloMosaic.ValueIdx Idealize.ShloMosaic.WordCmp
open scoped BigOperators

/-! ## The reference in stages -/

/-- The sample indices, a negative one counted from the table's end, as a column. -/
def idx (P : IVec S2048 32) : IVec S2048x1 32 :=
  broadcastInDim S2048x1 ![0] bcast_S2048_S2048x1_0
    (select (cmpi .slt P (broadcastInDim S2048 ![] bcast_S_S2048 (constantI S_ 32 0#32)))
      (addi P (broadcastInDim S2048 ![] bcast_S_S2048 (constantI S_ 32 442368#32))) P)

/-- Which samples' indices are rows of the table. -/
def mask (P : IVec S2048 32) : IVec S2048 1 :=
  Host.reduce IntOp.andi (andi (cmpi .sge (idx P) (broadcastInDim S2048x1 ![] bcast_S_S2048x1 (constantI S_ 32 0#32)))
    (cmpi .sle (idx P) (broadcastInDim S2048x1 ![0, 1] bcast_S1x1_S2048x1_0_1 (broadcastInDim S1x1 ![1] bcast_S1_S1x1_1 (constantI S1 32 442367#32)))))
    (constantI S_ 1 1#1) reducesTo_S2048x1_S2048_d1 h_S_

/-- The table's rows at the sample indices. -/
def take (T : FVec Ideal S442368x64 .f32) (P : IVec S2048 32) : FVec Ideal S2048x64 .f32 :=
  select (broadcastInDim S2048x64 ![0] bcast_S2048_S2048x64_0 (mask P))
    (Host.gather gather_S442368x64_S2048x1_S2048x64_1_0_n_n_0_1_164 T (idx P))
    (broadcastInDim S2048x64 ![] bcast_S_S2048x64 (constant S_ .f32 0x7FC00000#32))

/-- An embedding array as a table of voxels' rows. -/
def table (e : FVec Ideal S4x64x48x48x48 .f32) : FVec Ideal S442368x64 .f32 :=
  shapeCast _ (transpose S4x48x48x48x64 [0, 2, 3, 4, 1] e transposes_S4x64x48x48x48_S4x48x48x48x64_0_2_3_4_1) shapeCasts_S4x48x48x48x64_S442368x64

/-- The positive logits, as a column. -/
def pos (q k : FVec Ideal S2048x64 .f32) : FVec Ideal S2048x1 .f32 :=
  broadcastInDim S2048x1 ![0] bcast_S2048_S2048x1_0 (Host.reduceAdd (mulf q k) (constant S_ .f32 0x00000000#32) reducesTo_S2048x64_S2048_d1 h_S_)

/-- The logits against the queue. -/
def neg (q : FVec Ideal S2048x64 .f32) (w : FVec Ideal S8192x64 .f32) : FVec Ideal S2048x8192 .f32 :=
  Host.dotGeneral dot_S2048x64_S64x8192_S2048x8192_1_0_0_1_n_n none q (transpose S64x8192 [1, 0] w transposes_S8192x64_S64x8192_1_0)

/-- All logits over the temperature. -/
def logits (q k : FVec Ideal S2048x64 .f32) (w : FVec Ideal S8192x64 .f32) : FVec Ideal S2048x8193 .f32 :=
  Host.divf (concatenate S2048x8193 1 [⟨S2048x1, pos q k⟩, ⟨S2048x8192, neg q w⟩] concatenates_S2048x1_S2048x8192_S2048x8193_d1)
    (broadcastInDim S2048x8193 ![] bcast_S_S2048x8193 (Host.divf (constant S_ .f32 0x40E00000#32) (constant S_ .f32 0x42C80000#32)))

/-- A vector of one entry per sample, along the logits. -/
def along (v : FVec Ideal S2048x1 .f32) : FVec Ideal S2048x8193 .f32 := broadcastInDim S2048x8193 ![0, 1] bcast_S2048x1_S2048x8193_0_1 v

/-- The greatest logit of each sample. -/
def top (l : FVec Ideal S2048x8193 .f32) : FVec Ideal S2048 .f32 :=
  maximumf (broadcastInDim S2048 ![] bcast_S_S2048 (constant S_ .f32 0xFF800000#32))
    (Host.reduce FloatOps.maximumf l (constant S_ .f32 0xFF800000#32) reducesTo_S2048x8193_S2048_d1 h_S_)

/-- The logits less the sample's greatest. -/
def shifted (l : FVec Ideal S2048x8193 .f32) : FVec Ideal S2048x8193 .f32 :=
  subf l (along (broadcastInDim S2048x1 ![0] bcast_S2048_S2048x1_0 (top l)))

/-- The sum of the shifted logits' exponentials. -/
def total (l : FVec Ideal S2048x8193 .f32) : FVec Ideal S2048 .f32 :=
  Host.reduceAdd (Host.exp (shifted l)) (constant S_ .f32 0x00000000#32) reducesTo_S2048x8193_S2048_d1 h_S_

/-- The logarithm of the softmax. -/
def lsm (l : FVec Ideal S2048x8193 .f32) : FVec Ideal S2048x8193 .f32 :=
  subf (shifted l) (along (Host.log (broadcastInDim S2048x1 ![0] bcast_S2048_S2048x1_0 (total l))))

/-- The mean over the samples of minus the first entry. -/
def mean (x : FVec Ideal S2048x8193 .f32) : FVec Ideal S_ .f32 :=
  addf (constant S_ .f32 0x00000000#32) (mulf (constant S_ .f32 0x3F800000#32) (Host.negf (Host.divf
    (Host.reduceAdd (shapeCast _ (extractStridedSlice S2048x1 ![0, 0] x slices_S2048x8193_S2048x1_0_0) shapeCasts_S2048x1_S2048)
      (constant S_ .f32 0x00000000#32) reducesTo_S2048_S_d0 h_S_) (constant S_ .f32 0x45000000#32))))

/-- The reference's result is these stages in turn. -/
theorem res_eq (m : (ℓ : Loc nD τ sig) → Buf (Elt Ideal) ℓ) (c : Dev nD) :
    Value.res_main_v26 (F := Ideal) m c = mean (lsm (logits
      (take (table (m ((c.tc : Thread nD τ).loc main_arg0))) (m ((c.tc : Thread nD τ).loc main_arg4)))
      (take (table (m ((c.tc : Thread nD τ).loc main_arg1))) (m ((c.tc : Thread nD τ).loc main_arg4)))
      (m ((c.tc : Thread nD τ).loc main_arg5)))) := rfl

/-! ## The gathered rows -/

theorem idx_at (P : IVec S2048 32) (hP : ∀ j, (P j).toNat < 442368) (n : Fin 2048) (u : Fin 1) : idx P (ix2 n u) = P (ix1 n) := by
  unfold idx
  rw [broadcastInDim_apply _ _ _ _ (ix1 n) (fun a => by match a with | ⟨0, _⟩ => rfl)]
  rw [select_at, cmpi_at]
  show Scalar.select (IntOp.cmpi .slt (P (ix1 n)) 0#32) _ _ = _
  have h := hP (ix1 n)
  rw [cmpi_slt_zero, decide_eq_false (by norm_num; omega)]
  rfl

theorem mask_at (P : IVec S2048 32) (hP : ∀ j, (P j).toNat < 442368) (j : S2048.Idx) : mask P j = 1#1 := by
  refine Host.reduce_andi_one _ _ _ _ j rfl fun i => ?_
  obtain ⟨n, u, rfl⟩ : ∃ n u, i = ix2 n u := ⟨i 0, i 1, by funext a; match a with | ⟨0, _⟩ => rfl | ⟨1, _⟩ => rfl⟩
  rw [andi_at, cmpi_at, cmpi_at, idx_at P hP]
  show IntOp.andi (IntOp.cmpi .sge (P (ix1 n)) 0#32) (IntOp.cmpi .sle (P (ix1 n)) 442367#32) = 1#1
  have h := hP (ix1 n)
  rw [cmpi_sge_zero, cmpi_sle_of_lt (by norm_num; omega) (by decide), decide_eq_true (by norm_num; omega), decide_eq_true (by
    show (P (ix1 n)).toNat ≤ 442367; omega)]
  rfl

/-- The gather reads the row each sample names. -/
theorem take_at (T : FVec Ideal S442368x64 .f32) (P : IVec S2048 32) (hP : ∀ j, (P j).toNat < 442368) (n : Fin 2048) (c : Fin 64) :
    take T P (ix2 n c) = T (ix2 ⟨(P (ix1 n)).toNat, hP (ix1 n)⟩ c) := by
  unfold take
  rw [select_at, broadcastInDim_apply _ _ (mask P) _ (ix1 n) (fun a => by match a with | ⟨0, _⟩ => rfl), mask_at P hP, ValueIdx.select_one]
  exact Routing.gather_row _ rfl rfl rfl rfl rfl T (idx P) n c ⟨(P (ix1 n)).toNat, hP (ix1 n)⟩
    ((idx_at P hP n 0).trans (by simp)) (by norm_num)

/-! ## The loss -/

section Real
variable (q k : FVec Ideal S2048x64 .f32) (w : FVec Ideal S8192x64 .f32)
  (q' k' : Fin 2048 → Fin 64 → ℝ) (w' : Fin 8192 → Fin 64 → ℝ)

/-- The logits of sample `n`: the positive pair's, then those against the queue. -/
def lg (n : Fin 2048) (j : Fin 8193) : ℝ :=
  if h : j.val = 0 then (∑ c, q' n c * k' n c) * (100 / 7) else (∑ c, q' n c * w' ⟨j.val - 1, by omega⟩ c) * (100 / 7)

theorem pos_at (hq : ∀ n c, q (ix2 n c) = (q' n c : EReal)) (hk : ∀ n c, k (ix2 n c) = (k' n c : EReal)) (n : Fin 2048) (u : Fin 1) :
    pos q k (ix2 n u) = ((∑ c, q' n c * k' n c : ℝ) : EReal) := by
  unfold pos
  rw [broadcastInDim_apply _ _ _ _ (ix1 n) (fun a => by match a with | ⟨0, _⟩ => rfl), hostReduceAdd_apply]
  have hr : S2048x64.Reduces [1] S2048 := by decide
  refine (Ideal.hostReduceAdd_single _ hr _ _ _).trans ?_
  show Ideal.ofBits .f32 0x00000000#32 + _ = _
  rw [Ideal.ofBits_zero_f32, zero_add, coe_sum]
  refine Finset.sum_congr rfl fun c _ => ?_
  have e : hr.lift (ix1 n) c = ix2 n c := by funext a; match a with | ⟨0, _⟩ => rfl | ⟨1, _⟩ => rfl
  rw [ValueIdx.mulf_apply, e]
  exact (congrArg₂ (· * ·) (hq n c) (hk n c)).trans (EReal.coe_mul _ _).symm

theorem neg_at (hq : ∀ n c, q (ix2 n c) = (q' n c : EReal)) (hw : ∀ n c, w (ix2 n c) = (w' n c : EReal)) (n : Fin 2048) (j : Fin 8192) :
    neg q w (ix2 n j) = ((∑ c, q' n c * w' j c : ℝ) : EReal) := by
  show FloatOps.dotGeneral dot_S2048x64_S64x8192_S2048x8192_1_0_0_1_n_n none _ q (transpose S64x8192 [1, 0] w transposes_S8192x64_S64x8192_1_0) (ix2 n j) = _
  rw [Ideal.dotGeneral_apply, coe_sum, ← Equiv.sum_comp (contrEquiv1 dot_S2048x64_S64x8192_S2048x8192_1_0_0_1_n_n 64 rfl rfl).symm]
  refine Finset.sum_congr rfl fun d _ => ?_
  have el : dot_S2048x64_S64x8192_S2048x8192_1_0_0_1_n_n.lhsIdx (ix2 n j) ((contrEquiv1 dot_S2048x64_S64x8192_S2048x8192_1_0_0_1_n_n 64 rfl rfl).symm d)
      = ix2 n d := by funext a; match a with | ⟨0, _⟩ => rfl | ⟨1, _⟩ => rfl
  have er : dot_S2048x64_S64x8192_S2048x8192_1_0_0_1_n_n.rhsIdx (ix2 n j) ((contrEquiv1 dot_S2048x64_S64x8192_S2048x8192_1_0_0_1_n_n 64 rfl rfl).symm d)
      = ix2 d j := by funext a; match a with | ⟨0, _⟩ => rfl | ⟨1, _⟩ => rfl
  rw [el, er, transpose_ix2_apply, hq, hw, EReal.coe_mul]

/-- The words of 7 and 100, and the temperature: exactly 7/100. -/
theorem temp_at (j : S2048x8193.Idx) : broadcastInDim S2048x8193 ![] bcast_S_S2048x8193
    (Host.divf (constant (F := Ideal) S_ .f32 0x40E00000#32) (constant S_ .f32 0x42C80000#32)) j = ((7 / 100 : ℝ) : EReal) := by
  refine (broadcastInDim_scalar_apply _ _ j).trans ?_
  show Ideal.div (Ideal.ofBits .f32 0x40E00000#32) (Ideal.ofBits .f32 0x42C80000#32) = _
  have h7 : Ideal.ofBits .f32 0x40E00000#32 = ((7 : ℝ) : EReal) := by simp [Ideal.ofBits, Ideal.ieee, -EReal.coe_mul]; norm_num
  have h100 : Ideal.ofBits .f32 0x42C80000#32 = ((100 : ℝ) : EReal) := by simp [Ideal.ofBits, Ideal.ieee, -EReal.coe_mul]; norm_num
  rw [h7, h100, Ideal.div_coe (by norm_num), ← EReal.coe_mul]
  congr 1; norm_num

theorem logits_at (hq : ∀ n c, q (ix2 n c) = (q' n c : EReal)) (hk : ∀ n c, k (ix2 n c) = (k' n c : EReal))
    (hw : ∀ n c, w (ix2 n c) = (w' n c : EReal)) (n : Fin 2048) (j : Fin 8193) :
    logits q k w (ix2 n j) = (lg q' k' w' n j : EReal) := by
  unfold logits
  rw [hostDivf_apply, temp_at, Ideal.div_coe (by norm_num)]
  rw [show (1 / (7 / 100) : ℝ) = 100 / 7 by norm_num]
  unfold lg
  by_cases h : j.val = 0
  · rw [dif_pos h, EReal.coe_mul]
    refine congrArg (· * _) (Eq.trans ?_ (pos_at q k q' k' hq hk n 0))
    refine concatenate_pair_apply_left 1 (pos q k) (neg q w) _ (ix2 n j) rfl (ix2 n 0) fun b => ?_
    match b with
    | ⟨0, _⟩ => rfl
    | ⟨1, _⟩ => exact h.symm
  · rw [dif_neg h, EReal.coe_mul]
    refine congrArg (· * _) (Eq.trans ?_ (neg_at q w q' w' hq hw n ⟨j.val - 1, by omega⟩))
    refine concatenate_pair_apply_right 1 (pos q k) (neg q w) _ (ix2 n j) rfl rfl (ix2 n ⟨j.val - 1, by omega⟩) (fun b hb => ?_) ?_
    · match b with
      | ⟨0, _⟩ => rfl
      | ⟨1, _⟩ => exact absurd rfl hb
    · show j.val - 1 + 1 = j.val
      omega

theorem along_at (v : FVec Ideal S2048x1 .f32) (n : Fin 2048) (j : Fin 8193) : along v (ix2 n j) = v (ix2 n 0) :=
  broadcastInDim_apply _ _ _ _ (ix2 n 0) (fun a => by match a with | ⟨0, _⟩ => rfl | ⟨1, _⟩ => rfl)

theorem col_at (v : FVec Ideal S2048 .f32) (n : Fin 2048) (u : Fin 1) : broadcastInDim S2048x1 ![0] bcast_S2048_S2048x1_0 v (ix2 n u) = v (ix1 n) :=
  broadcastInDim_apply _ _ _ _ (ix1 n) (fun a => by match a with | ⟨0, _⟩ => rfl)

theorem row_lift (h : S2048x8193.Reduces [1] S2048) (n : Fin 2048) (c : Fin 8193) : h.lift (ix1 n) c = ix2 n c := by
  funext a; match a with | ⟨0, _⟩ => rfl | ⟨1, _⟩ => rfl

theorem rows_reduce : S2048x8193.Reduces [1] S2048 := by decide

/-- The greatest logit is real. -/
theorem top_at (l : FVec Ideal S2048x8193 .f32) (n : Fin 2048) (L : Fin 8193 → ℝ) (hl : ∀ j, l (ix2 n j) = (L j : EReal)) :
    ∃ μ : ℝ, top l (ix1 n) = (μ : EReal) := by
  obtain ⟨μ, hμ⟩ := fold_max_real (n := 8192) L
  have hm (a b : FVec Ideal S2048 .f32) (i : S2048.Idx) : maximumf a b i = max (a i) (b i) := rfl
  refine ⟨μ, ?_⟩
  unfold top
  rw [hm, Host.reduce_eq_fold_single _ _ _ _ rows_reduce]
  have hf : (l ∘ rows_reduce.lift (ix1 n)) = fun c : Fin 8193 => (L c : EReal) := funext fun c => (congrArg l (row_lift _ n c)).trans (hl c)
  have hb : constant (F := Ideal) S_ .f32 0xFF800000#32 (Shape.Idx.first h_S_) = (⊥ : EReal) := ofBits_neg_inf
  have hb' : broadcastInDim S2048 ![] bcast_S_S2048 (constant (F := Ideal) S_ .f32 0xFF800000#32) (ix1 n) = (⊥ : EReal) := ofBits_neg_inf
  rw [hf, hb, hb', max_eq_right bot_le]
  exact hμ

theorem shifted_at (l : FVec Ideal S2048x8193 .f32) (n : Fin 2048) (L : Fin 8193 → ℝ) (hl : ∀ j, l (ix2 n j) = (L j : EReal)) (μ : ℝ)
    (ht : top l (ix1 n) = (μ : EReal)) (j : Fin 8193) : shifted l (ix2 n j) = ((L j - μ : ℝ) : EReal) := by
  unfold shifted
  rw [ValueIdx.subf_apply, along_at, col_at, ht, hl, ← EReal.coe_sub]

theorem total_at (l : FVec Ideal S2048x8193 .f32) (n : Fin 2048) (L : Fin 8193 → ℝ) (μ : ℝ)
    (hs : ∀ j, shifted l (ix2 n j) = ((L j - μ : ℝ) : EReal)) : total l (ix1 n) = (((∑ j, Real.exp (L j)) * Real.exp (-μ) : ℝ) : EReal) := by
  have he (v : FVec Ideal S2048x8193 .f32) (i) : Host.exp v i = Ideal.exp (v i) := rfl
  unfold total
  rw [hostReduceAdd_apply]
  refine (Ideal.hostReduceAdd_single _ rows_reduce _ _ _).trans ?_
  have hz : constant (F := Ideal) S_ .f32 0x00000000#32 (Shape.Idx.first h_S_) = (0 : EReal) := Ideal.ofBits_zero_f32
  rw [hz, zero_add, Finset.sum_mul, coe_sum]
  refine Finset.sum_congr rfl fun c _ => ?_
  rw [row_lift rows_reduce n c, he, show shifted l (ix2 n c) = _ from hs c, Ideal.exp_coe, ← Real.exp_add, sub_eq_add_neg]

/-- The logarithm of the softmax at the positive pair: the shift by the greatest logit cancels. -/
theorem lsm_at (l : FVec Ideal S2048x8193 .f32) (n : Fin 2048) (L : Fin 8193 → ℝ) (hl : ∀ j, l (ix2 n j) = (L j : EReal)) :
    lsm l (ix2 n 0) = ((L 0 - Real.log (∑ j, Real.exp (L j)) : ℝ) : EReal) := by
  obtain ⟨μ, ht⟩ := top_at l n L hl
  have hs := shifted_at l n L hl μ ht
  have hpos : 0 < ∑ j, Real.exp (L j) := Finset.sum_pos (fun j _ => Real.exp_pos _) ⟨0, Finset.mem_univ _⟩
  have hg (v : FVec Ideal S2048x1 .f32) (i : S2048x1.Idx) : Host.log v i = Ideal.log (v i) := rfl
  unfold lsm
  rw [ValueIdx.subf_apply, along_at, hs, hg, col_at, total_at l n L μ hs, log_pos_coe (mul_pos hpos (Real.exp_pos _)),
    Real.log_mul hpos.ne' (Real.exp_pos _).ne', Real.log_exp, ← EReal.coe_sub]
  refine congrArg (fun x : ℝ => (x : EReal)) ?_
  ring

/-- The mean over the samples of minus the first entry. -/
theorem mean_at (x : FVec Ideal S2048x8193 .f32) (f : Fin 2048 → ℝ) (hx : ∀ n, x (ix2 n 0) = (f n : EReal)) (i : S_.Idx) :
    mean x i = (((∑ n, -f n) * (1 / 2048) : ℝ) : EReal) := by
  have hsum : Host.reduceAdd (shapeCast _ (extractStridedSlice S2048x1 ![0, 0] x slices_S2048x8193_S2048x1_0_0) shapeCasts_S2048x1_S2048)
      (constant (F := Ideal) S_ .f32 0x00000000#32) reducesTo_S2048_S_d0 h_S_ i = ((∑ n, f n : ℝ) : EReal) := by
    rw [hostReduceAdd_apply]
    refine (Ideal.hostReduceAdd_total _ (fun b => b.elim0) _ _ _).trans ?_
    show Ideal.ofBits .f32 0x00000000#32 + _ = _
    rw [Ideal.ofBits_zero_f32, zero_add, coe_sum, ← Equiv.sum_comp (idxEquiv1 (n := 2048)).symm]
    refine Finset.sum_congr rfl fun n _ => ?_
    show shapeCast _ _ _ (ix1 n) = _
    refine (shapeCast_apply _ shapeCasts_S2048x1_S2048 (ix1 n) (ix2 n 0) ?_).trans ?_
    · rw [Shape.rowMajor_val_two, Shape.rowMajor_val_one]
      show n.val * 1 + 0 = n.val
      omega
    · exact (extractStridedSlice_apply _ _ _ _ (ix2 n 0) (fun a => by
        match a with
        | ⟨0, _⟩ => show n.val = 0 + n.val; omega
        | ⟨1, _⟩ => rfl)).trans (hx n)
  have h2048 : Ideal.ofBits .f32 0x45000000#32 = ((2048 : ℝ) : EReal) := by simp [Ideal.ofBits, Ideal.ieee, -EReal.coe_mul]; norm_num
  show Ideal.ofBits .f32 0x00000000#32 + Ideal.ofBits .f32 0x3F800000#32 * -(Ideal.div (Host.reduceAdd (F := Ideal) (φ := .f32) _ _ _ _ i) (Ideal.ofBits .f32 0x45000000#32)) = _
  rw [Ideal.ofBits_zero_f32, Ideal.ofBits_one_f32, zero_add, one_mul, hsum, h2048, Ideal.div_coe (by norm_num), ← EReal.coe_mul, ← EReal.coe_neg,
    Finset.sum_neg_distrib]
  congr 1; ring

/-- The stages on real inputs give the mean of the samples' losses. -/
theorem loss_real (hq : ∀ n c, q (ix2 n c) = (q' n c : EReal)) (hk : ∀ n c, k (ix2 n c) = (k' n c : EReal))
    (hw : ∀ n c, w (ix2 n c) = (w' n c : EReal)) (i : S_.Idx) :
    mean (lsm (logits q k w)) i = (((∑ n, nll (q' n) (k' n) w') * (1 / 2048) : ℝ) : EReal) := by
  rw [mean_at _ _ (fun n => lsm_at _ n (lg q' k' w' n) (logits_at q k w q' k' w' hq hk hw n)) i]
  refine congrArg (fun x : ℝ => ((x * (1 / 2048) : ℝ) : EReal)) (Finset.sum_congr rfl fun n _ => ?_)
  rw [Fin.sum_univ_succ]
  have h0 : lg q' k' w' n 0 = (∑ c, q' n c * k' n c) * (100 / 7) := dif_pos rfl
  have hs (j : Fin 8192) : lg q' k' w' n j.succ = (∑ c, q' n c * w' j c) * (100 / 7) := dif_neg (Nat.succ_ne_zero _)
  simp only [h0, hs]
  show -((∑ c, q' n c * k' n c) * (100 / 7) - Real.log (Real.exp ((∑ c, q' n c * k' n c) * (100 / 7))
    + ∑ j : Fin 8192, Real.exp ((∑ c, q' n c * w' j c) * (100 / 7)))) = nll (q' n) (k' n) w'
  unfold nll
  ring

end Real

end Cert.Proof.Moco.Ref

end
-- ==== Proof.Algebraic.lean ====
/-
  The value claim: over finite inputs and sample indices that are rows of the tables, the kernel's result and the
  reference's are the same extended real, the mean of the samples' losses.
-/
module

public import proofs.«01_k».proof.Proof.Ref
public import proofs.«01_k».proof.Proof.Finite

@[expose] public section

noncomputable section

namespace Cert.Proof.Moco

open Cert.KernelIdeal Cert.KernelIdeal.Gen
open Idealize.ShloMosaic Idealize.ShloMosaic.TcCoe Idealize.ShloMosaic.ValueIdx Idealize.SL.Sem
open scoped BigOperators

/-- An extended real whose absolute value lies below infinity is a real. -/
theorem real_of_below (x : EReal)
    (h : FloatOps.cmpf (F := Ideal) (φ := .f32) .olt (max x (-x) : EReal) (FloatOps.ofBits .f32 0x7F800000#32) = 1#1) :
    ∃ r : ℝ, x = (r : EReal) := by
  have ht : (FloatOps.ofBits (F := Ideal) .f32 0x7F800000#32 : EReal) = ⊤ := by
    show Ideal.ofBits .f32 0x7F800000#32 = ⊤
    simp [Ideal.ofBits, Ideal.ieee]
  rw [ht] at h
  have hlt : max x (-x) < (⊤ : EReal) := by
    by_contra hn
    have : Ideal.cmp .olt (max x (-x)) ⊤ = 0#1 := by simp only [Ideal.cmp, decide_eq_false hn]; rfl
    exact absurd (this.symm.trans h) (by decide)
  refine ⟨x.toReal, (EReal.coe_toReal (fun e => ?_) (fun e => ?_)).symm⟩ <;> simp [e] at hlt

/-- Every element of the array is a real. -/
def Reals {s : Shape} (x : Vec Ideal s .f32) : Prop := ∀ i : s.Idx, ∃ r : ℝ, x i = (r : EReal)

/-- Each entry of a table is an element of the embeddings, so a real if they all are. -/
theorem tab_real (x : Vec Ideal S4x64x48x48x48 .f32) (h : Reals x) : Reals (tab x) := fun _ => h _

/-- A gathered row, its index a row of the table. -/
theorem gath_at {α : Type} (e : S442368x64.Idx → α) (p : S2048.Idx → BitVec 32) (hp : ∀ j, (p j).toNat < 442368)
    (n : Fin 2048) (c : Fin 64) : gath e p (ix2 n c) = e (ix2 ⟨(p (ix1 n)).toNat, hp (ix1 n)⟩ c) := by
  have hr : ∀ j : S2048.Idx, j = ix1 n → e (rowIx (p j).toNat c) = e (ix2 ⟨(p (ix1 n)).toNat, hp (ix1 n)⟩ c) := by
    rintro _ rfl
    refine congrArg e (funext fun a => ?_)
    match a with
    | ⟨0, _⟩ => exact Fin.ext (Nat.mod_eq_of_lt (hp (ix1 n)))
    | ⟨1, _⟩ => rfl
  exact hr _ (funext fun a => by match a with | ⟨0, _⟩ => rfl)

/-- The kernel's result is its one accumulated element. -/
theorem Rv_at (m : (ℓ : Loc nD τ sig) → Buf (Elt Ideal) ℓ) (d : Dev nD) (i : S_.Idx) : Rv m d i = acc1 (Em m) d (ix2 0 0) := by
  have hs : ∀ a b : S1x1.Idx, a = b := fun a b => funext fun k => by
    match k with
    | ⟨0, _⟩ => exact Subsingleton.elim (α := Fin 1) _ _
    | ⟨1, _⟩ => exact Subsingleton.elim (α := Fin 1) _ _
  exact congrArg (acc1 (Em m) d) (hs _ _)

/-- The kernel's result and the reference's, as functions of the same inputs. -/
theorem value_eq (m : (ℓ : Loc nD τ sig) → Buf (Elt Ideal) ℓ) (d : Dev nD) (hp : ∀ j, (prm m d j).toNat < 442368)
    (h0 : Reals (s := S4x64x48x48x48) (m ((d : Thread nD τ).loc main_arg0)))
    (h1 : Reals (s := S4x64x48x48x48) (m ((d : Thread nD τ).loc main_arg1)))
    (h5 : Reals (s := S8192x64) (m ((d : Thread nD τ).loc main_arg5))) :
    Ref.mean (Ref.lsm (Ref.logits (Ref.take (Ref.table (m ((d : Thread nD τ).loc main_arg0))) (prm m d))
      (Ref.take (Ref.table (m ((d : Thread nD τ).loc main_arg1))) (prm m d)) (m ((d : Thread nD τ).loc main_arg5)))) = Rv m d := by
  choose f0 e0 using tab_real _ h0
  choose f1 e1 using tab_real _ h1
  choose f5 e5 using h5
  let row : Fin 2048 → Fin 64 → S442368x64.Idx := fun n c => ix2 ⟨(prm m d (ix1 n)).toNat, hp (ix1 n)⟩ c
  funext i
  refine (Ref.loss_real _ _ _ (fun n c => f0 (row n c)) (fun n c => f1 (row n c)) (fun n c => f5 (ix2 n c))
    (fun n c => ?_) (fun n c => ?_) (fun n c => e5 _) i).trans (((Rv_at m d i).trans
    (acc1_real (Em m) d (fun n c => f0 (row n c)) (fun n c => f1 (row n c)) (fun n c => f5 (ix2 n c))
      (fun n c => ?_) (fun n c => ?_) (fun n c => e5 _))).symm)
  · exact (Ref.take_at _ _ hp n c).trans (e0 _)
  · exact (Ref.take_at _ _ hp n c).trans (e1 _)
  · exact (gath_at _ _ hp n c).trans (e0 _)
  · exact (gath_at _ _ hp n c).trans (e1 _)

/-- The value claim: from equal inputs, finite and with sample indices that are rows of the tables, both programs end
    with the same result, their arguments unchanged. -/
theorem algebraic : Cert.algebraic_KernelIdeal_ReferenceIdeal_pre_finite_in_range := fun m g m' g' hpre hm => by
  have hf := fun d => finite_parts _ _ _ _ _ _ (hpre d)
  refine ⟨fun c => Rv m c, (θ_run _ _ _).mono (fun _ h c => ⟨(h.1 c).1, (h.1 c).2 _ (by simp), (h.1 c).2 _ (by simp),
      (h.1 c).2 _ (by simp), (h.1 c).2 _ (by simp), (h.1 c).2 _ (by simp), (h.1 c).2 _ (by simp)⟩)
      (run_main (F := Ideal) m g fun d => (hf d).1),
    (θ_run Cert.ReferenceIdeal.defs _ _).mono (fun r h c => ⟨(h c).1.trans ?_, (h c).2⟩)
      (Cert.ReferenceIdeal.Value.run (F := Ideal) m' g')⟩
  obtain ⟨a0, a1, -, -, a4, a5⟩ := hm c
  obtain ⟨hp, h0, h1, h5⟩ := hf c
  refine (Ref.res_eq m' c).trans ?_
  rw [a0, a1, a4, a5]
  exact value_eq m c hp (fun i => real_of_below _ (h0 i)) (fun i => real_of_below _ (h1 i)) (fun i => real_of_below _ (h5 i))

end Cert.Proof.Moco

end
-- ==== Proof.lean ====
/-
  The proof of `Cert.Claim`: the witnesses of the programs' stated facts, then each claim by its module.
-/
module

public import proofs.«01_k».proof.Defs
public import proofs.«01_k».proof.Proof.Frames
public import proofs.«01_k».proof.Proof.Finite
public import proofs.«01_k».proof.Proof.Algebraic

@[expose] public section

noncomputable section

namespace Cert.Proof

theorem claim : Cert.Claim := ⟨Cert.Kernel.Gen.facts, Cert.KernelIdeal.Gen.facts, Cert.ReferenceIdeal.Gen.facts, Cert.Reference.Gen.facts,
  Cert.Pre_in_range.Gen.facts, Cert.Pre_finite_in_range.Gen.facts,
  Moco.frame_p, Moco.frame_pi, Moco.frame_pi', Moco.frame_ri, Moco.frame_ri', Moco.frame_r, Moco.preserves, trivial, Moco.algebraic⟩

end Cert.Proof

end
